-- ==== Defs.lean ====
def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_RefSguIdeal (m : (ℓ : Loc Cert.RefSguIdeal.nD Cert.RefSguIdeal.τ Cert.RefSguIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_RefFfnIdeal (m : (ℓ : Loc Cert.RefFfnIdeal.nD Cert.RefFfnIdeal.τ Cert.RefFfnIdeal.sig) → Buf (Elt Ideal) ℓ) : Prop :=
  True

def Pre_FfnRows (m : (ℓ : Loc Cert.FfnRows.nD Cert.FfnRows.τ Cert.FfnRows.sig) → Buf (Elt Bits) ℓ) : Prop :=
  True

def Pre_FfnRowsIdeal (m : (ℓ : Loc Cert.FfnRowsIdeal.nD Cert.FfnRowsIdeal.τ Cert.FfnRowsIdeal.sig) → Buf (Elt Ideal) ℓ) : Prop :=
  True

def Pre_RefFfnRowsIdeal (m : (ℓ : Loc Cert.RefFfnRowsIdeal.nD Cert.RefFfnRowsIdeal.τ Cert.RefFfnRowsIdeal.sig) → Buf (Elt Ideal) ℓ) : Prop :=
  True

def Pre_FfnFinal (m : (ℓ : Loc Cert.FfnFinal.nD Cert.FfnFinal.τ Cert.FfnFinal.sig) → Buf (Elt Bits) ℓ) : Prop :=
  True

def Pre_FfnFinalIdeal (m : (ℓ : Loc Cert.FfnFinalIdeal.nD Cert.FfnFinalIdeal.τ Cert.FfnFinalIdeal.sig) → Buf (Elt Ideal) ℓ) : Prop :=
  True

def Pre_RefFfnFinalIdeal (m : (ℓ : Loc Cert.RefFfnFinalIdeal.nD Cert.RefFfnFinalIdeal.τ Cert.RefFfnFinalIdeal.sig) → Buf (Elt Ideal) ℓ) : Prop :=
  True

def Pre_GmlpIn (m : (ℓ : Loc Cert.GmlpIn.nD Cert.GmlpIn.τ Cert.GmlpIn.sig) → Buf (Elt Bits) ℓ) : Prop :=
  True

def Pre_GmlpInIdeal (m : (ℓ : Loc Cert.GmlpInIdeal.nD Cert.GmlpInIdeal.τ Cert.GmlpInIdeal.sig) → Buf (Elt Ideal) ℓ) : Prop :=
  True

def Pre_RefGmlpInIdeal (m : (ℓ : Loc Cert.RefGmlpInIdeal.nD Cert.RefGmlpInIdeal.τ Cert.RefGmlpInIdeal.sig) → Buf (Elt Ideal) ℓ) : Prop :=
  True

def Pre_GlaIn (m : (ℓ : Loc Cert.GlaIn.nD Cert.GlaIn.τ Cert.GlaIn.sig) → Buf (Elt Bits) ℓ) : Prop :=
  True

def Pre_GlaInIdeal (m : (ℓ : Loc Cert.GlaInIdeal.nD Cert.GlaInIdeal.τ Cert.GlaInIdeal.sig) → Buf (Elt Ideal) ℓ) : Prop :=
  True

def Pre_RefGlaInIdeal (m : (ℓ : Loc Cert.RefGlaInIdeal.nD Cert.RefGlaInIdeal.τ Cert.RefGlaInIdeal.sig) → Buf (Elt Ideal) ℓ) : Prop :=
  True

def Pre_NsaProj (m : (ℓ : Loc Cert.NsaProj.nD Cert.NsaProj.τ Cert.NsaProj.sig) → Buf (Elt Bits) ℓ) : Prop :=
  True

def Pre_NsaProjIdeal (m : (ℓ : Loc Cert.NsaProjIdeal.nD Cert.NsaProjIdeal.τ Cert.NsaProjIdeal.sig) → Buf (Elt Ideal) ℓ) : Prop :=
  True

def Pre_RefNsaProjIdeal (m : (ℓ : Loc Cert.RefNsaProjIdeal.nD Cert.RefNsaProjIdeal.τ Cert.RefNsaProjIdeal.sig) → Buf (Elt Ideal) ℓ) : Prop :=
  True

def Pre_NsaCompress (m : (ℓ : Loc Cert.NsaCompress.nD Cert.NsaCompress.τ Cert.NsaCompress.sig) → Buf (Elt Bits) ℓ) : Prop :=
  True

def Pre_NsaCompressIdeal (m : (ℓ : Loc Cert.NsaCompressIdeal.nD Cert.NsaCompressIdeal.τ Cert.NsaCompressIdeal.sig) → Buf (Elt Ideal) ℓ) : Prop :=
  True

def Pre_RefNsaCompressIdeal (m : (ℓ : Loc Cert.RefNsaCompressIdeal.nD Cert.RefNsaCompressIdeal.τ Cert.RefNsaCompressIdeal.sig) → Buf (Elt Ideal) ℓ) : Prop :=
  True

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4)
      ∧ r.2.mem ((c.tc : Thread Cert.Sgu.nD Cert.Sgu.τ).loc Cert.Sgu.main_arg5) = m ((c.tc : Thread Cert.Sgu.nD Cert.Sgu.τ).loc Cert.Sgu.main_arg5)
      ∧ r.2.mem ((c.tc : Thread Cert.Sgu.nD Cert.Sgu.τ).loc Cert.Sgu.main_arg6) = m ((c.tc : Thread Cert.Sgu.nD Cert.Sgu.τ).loc Cert.Sgu.main_arg6))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5)
      ∧ r.2.mem ((c.tc : Thread Cert.SguIdeal.nD Cert.SguIdeal.τ).loc Cert.SguIdeal.main_arg6) = m ((c.tc : Thread Cert.SguIdeal.nD Cert.SguIdeal.τ).loc Cert.SguIdeal.main_arg6))
      ∧ r.2.sem = fun _ => 0)

def quiescent_RefSguIdeal [hRefSguIdeal : Cert.RefSguIdeal.Facts] : Prop :=
  ∀ (m : (ℓ : Loc Cert.RefSguIdeal.nD Cert.RefSguIdeal.τ Cert.RefSguIdeal.sig) → Buf (Elt Ideal) ℓ) (g : Dev Cert.RefSguIdeal.nD → PrngReg), Pre_RefSguIdeal m →
    θ_run (Cert.RefSguIdeal.defs (F := Ideal)) (onTc (τ := Cert.RefSguIdeal.τ) (Cert.RefSguIdeal.main (F := Ideal))) ⟨m, fun _ => 0, g⟩ (fun r => (∀ c : Dev Cert.RefSguIdeal.nD,
      r.2.mem ((c.tc : Thread Cert.RefSguIdeal.nD Cert.RefSguIdeal.τ).loc Cert.RefSguIdeal.main_arg0) = m ((c.tc : Thread Cert.RefSguIdeal.nD Cert.RefSguIdeal.τ).loc Cert.RefSguIdeal.main_arg0)
      ∧ r.2.mem ((c.tc : Thread Cert.RefSguIdeal.nD Cert.RefSguIdeal.τ).loc Cert.RefSguIdeal.main_arg1) = m ((c.tc : Thread Cert.RefSguIdeal.nD Cert.RefSguIdeal.τ).loc Cert.RefSguIdeal.main_arg1)
      ∧ r.2.mem ((c.tc : Thread Cert.RefSguIdeal.nD Cert.RefSguIdeal.τ).loc Cert.RefSguIdeal.main_arg2) = m ((c.tc : Thread Cert.RefSguIdeal.nD Cert.RefSguIdeal.τ).loc Cert.RefSguIdeal.main_arg2)
      ∧ r.2.mem ((c.tc : Thread Cert.RefSguIdeal.nD Cert.RefSguIdeal.τ).loc Cert.RefSguIdeal.main_arg3) = m ((c.tc : Thread Cert.RefSguIdeal.nD Cert.RefSguIdeal.τ).loc Cert.RefSguIdeal.main_arg3)
      ∧ r.2.mem ((c.tc : Thread Cert.RefSguIdeal.nD Cert.RefSguIdeal.τ).loc Cert.RefSguIdeal.main_arg4) = m ((c.tc : Thread Cert.RefSguIdeal.nD Cert.RefSguIdeal.τ).loc Cert.RefSguIdeal.main_arg4)
      ∧ r.2.mem ((c.tc : Thread Cert.RefSguIdeal.nD Cert.RefSguIdeal.τ).loc Cert.RefSguIdeal.main_arg5) = m ((c.tc : Thread Cert.RefSguIdeal.nD Cert.RefSguIdeal.τ).loc Cert.RefSguIdeal.main_arg5)
      ∧ r.2.mem ((c.tc : Thread Cert.RefSguIdeal.nD Cert.RefSguIdeal.τ).loc Cert.RefSguIdeal.main_arg6) = m ((c.tc : Thread Cert.RefSguIdeal.nD Cert.RefSguIdeal.τ).loc Cert.RefSguIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_RefFfnIdeal [hRefFfnIdeal : Cert.RefFfnIdeal.Facts] : Prop :=
  ∀ (m : (ℓ : Loc Cert.RefFfnIdeal.nD Cert.RefFfnIdeal.τ Cert.RefFfnIdeal.sig) → Buf (Elt Ideal) ℓ) (g : Dev Cert.RefFfnIdeal.nD → PrngReg), Pre_RefFfnIdeal m →
    θ_run (Cert.RefFfnIdeal.defs (F := Ideal)) (onTc (τ := Cert.RefFfnIdeal.τ) (Cert.RefFfnIdeal.main (F := Ideal))) ⟨m, fun _ => 0, g⟩ (fun r => (∀ c : Dev Cert.RefFfnIdeal.nD,
      r.2.mem ((c.tc : Thread Cert.RefFfnIdeal.nD Cert.RefFfnIdeal.τ).loc Cert.RefFfnIdeal.main_arg0) = m ((c.tc : Thread Cert.RefFfnIdeal.nD Cert.RefFfnIdeal.τ).loc Cert.RefFfnIdeal.main_arg0)
      ∧ r.2.mem ((c.tc : Thread Cert.RefFfnIdeal.nD Cert.RefFfnIdeal.τ).loc Cert.RefFfnIdeal.main_arg1) = m ((c.tc : Thread Cert.RefFfnIdeal.nD Cert.RefFfnIdeal.τ).loc Cert.RefFfnIdeal.main_arg1)
      ∧ r.2.mem ((c.tc : Thread Cert.RefFfnIdeal.nD Cert.RefFfnIdeal.τ).loc Cert.RefFfnIdeal.main_arg2) = m ((c.tc : Thread Cert.RefFfnIdeal.nD Cert.RefFfnIdeal.τ).loc Cert.RefFfnIdeal.main_arg2)
      ∧ r.2.mem ((c.tc : Thread Cert.RefFfnIdeal.nD Cert.RefFfnIdeal.τ).loc Cert.RefFfnIdeal.main_arg3) = m ((c.tc : Thread Cert.RefFfnIdeal.nD Cert.RefFfnIdeal.τ).loc Cert.RefFfnIdeal.main_arg3)
      ∧ r.2.mem ((c.tc : Thread Cert.RefFfnIdeal.nD Cert.RefFfnIdeal.τ).loc Cert.RefFfnIdeal.main_arg4) = m ((c.tc : Thread Cert.RefFfnIdeal.nD Cert.RefFfnIdeal.τ).loc Cert.RefFfnIdeal.main_arg4))
      ∧ r.2.sem = fun _ => 0)

def quiescent_FfnRows [hFfnRows : Cert.FfnRows.Facts] : Prop :=
  ∀ (m : (ℓ : Loc Cert.FfnRows.nD Cert.FfnRows.τ Cert.FfnRows.sig) → Buf (Elt Bits) ℓ) (g : Dev Cert.FfnRows.nD → PrngReg), Pre_FfnRows m →
    θ_run (Cert.FfnRows.defs (F := Bits)) (onTc (τ := Cert.FfnRows.τ) (Cert.FfnRows.main (F := Bits))) ⟨m, fun _ => 0, g⟩ (fun r => (∀ c : Dev Cert.FfnRows.nD,
      r.2.mem ((c.tc : Thread Cert.FfnRows.nD Cert.FfnRows.τ).loc Cert.FfnRows.main_arg0) = m ((c.tc : Thread Cert.FfnRows.nD Cert.FfnRows.τ).loc Cert.FfnRows.main_arg0)
      ∧ r.2.mem ((c.tc : Thread Cert.FfnRows.nD Cert.FfnRows.τ).loc Cert.FfnRows.main_arg1) = m ((c.tc : Thread Cert.FfnRows.nD Cert.FfnRows.τ).loc Cert.FfnRows.main_arg1)
      ∧ r.2.mem ((c.tc : Thread Cert.FfnRows.nD Cert.FfnRows.τ).loc Cert.FfnRows.main_arg2) = m ((c.tc : Thread Cert.FfnRows.nD Cert.FfnRows.τ).loc Cert.FfnRows.main_arg2)
      ∧ r.2.mem ((c.tc : Thread Cert.FfnRows.nD Cert.FfnRows.τ).loc Cert.FfnRows.main_arg3) = m ((c.tc : Thread Cert.FfnRows.nD Cert.FfnRows.τ).loc Cert.FfnRows.main_arg3)
      ∧ r.2.mem ((c.tc : Thread Cert.FfnRows.nD Cert.FfnRows.τ).loc Cert.FfnRows.main_arg4) = m ((c.tc : Thread Cert.FfnRows.nD Cert.FfnRows.τ).loc Cert.FfnRows.main_arg4)
      ∧ r.2.mem ((c.tc : Thread Cert.FfnRows.nD Cert.FfnRows.τ).loc Cert.FfnRows.main_arg5) = m ((c.tc : Thread Cert.FfnRows.nD Cert.FfnRows.τ).loc Cert.FfnRows.main_arg5)
      ∧ r.2.mem ((c.tc : Thread Cert.FfnRows.nD Cert.FfnRows.τ).loc Cert.FfnRows.main_arg6) = m ((c.tc : Thread Cert.FfnRows.nD Cert.FfnRows.τ).loc Cert.FfnRows.main_arg6))
      ∧ r.2.sem = fun _ => 0)

def quiescent_FfnRowsIdeal [hFfnRowsIdeal : Cert.FfnRowsIdeal.Facts] : Prop :=
  ∀ (m : (ℓ : Loc Cert.FfnRowsIdeal.nD Cert.FfnRowsIdeal.τ Cert.FfnRowsIdeal.sig) → Buf (Elt Ideal) ℓ) (g : Dev Cert.FfnRowsIdeal.nD → PrngReg), Pre_FfnRowsIdeal m →
    θ_run (Cert.FfnRowsIdeal.defs (F := Ideal)) (onTc (τ := Cert.FfnRowsIdeal.τ) (Cert.FfnRowsIdeal.main (F := Ideal))) ⟨m, fun _ => 0, g⟩ (fun r => (∀ c : Dev Cert.FfnRowsIdeal.nD,
      r.2.mem ((c.tc : Thread Cert.FfnRowsIdeal.nD Cert.FfnRowsIdeal.τ).loc Cert.FfnRowsIdeal.main_arg0) = m ((c.tc : Thread Cert.FfnRowsIdeal.nD Cert.FfnRowsIdeal.τ).loc Cert.FfnRowsIdeal.main_arg0)
      ∧ r.2.mem ((c.tc : Thread Cert.FfnRowsIdeal.nD Cert.FfnRowsIdeal.τ).loc Cert.FfnRowsIdeal.main_arg1) = m ((c.tc : Thread Cert.FfnRowsIdeal.nD Cert.FfnRowsIdeal.τ).loc Cert.FfnRowsIdeal.main_arg1)
      ∧ r.2.mem ((c.tc : Thread Cert.FfnRowsIdeal.nD Cert.FfnRowsIdeal.τ).loc Cert.FfnRowsIdeal.main_arg2) = m ((c.tc : Thread Cert.FfnRowsIdeal.nD Cert.FfnRowsIdeal.τ).loc Cert.FfnRowsIdeal.main_arg2)
      ∧ r.2.mem ((c.tc : Thread Cert.FfnRowsIdeal.nD Cert.FfnRowsIdeal.τ).loc Cert.FfnRowsIdeal.main_arg3) = m ((c.tc : Thread Cert.FfnRowsIdeal.nD Cert.FfnRowsIdeal.τ).loc Cert.FfnRowsIdeal.main_arg3)
      ∧ r.2.mem ((c.tc : Thread Cert.FfnRowsIdeal.nD Cert.FfnRowsIdeal.τ).loc Cert.FfnRowsIdeal.main_arg4) = m ((c.tc : Thread Cert.FfnRowsIdeal.nD Cert.FfnRowsIdeal.τ).loc Cert.FfnRowsIdeal.main_arg4)
      ∧ r.2.mem ((c.tc : Thread Cert.FfnRowsIdeal.nD Cert.FfnRowsIdeal.τ).loc Cert.FfnRowsIdeal.main_arg5) = m ((c.tc : Thread Cert.FfnRowsIdeal.nD Cert.FfnRowsIdeal.τ).loc Cert.FfnRowsIdeal.main_arg5)
      ∧ r.2.mem ((c.tc : Thread Cert.FfnRowsIdeal.nD Cert.FfnRowsIdeal.τ).loc Cert.FfnRowsIdeal.main_arg6) = m ((c.tc : Thread Cert.FfnRowsIdeal.nD Cert.FfnRowsIdeal.τ).loc Cert.FfnRowsIdeal.main_arg6))
      ∧ r.2.sem = fun _ => 0)

def quiescent_RefFfnRowsIdeal [hRefFfnRowsIdeal : Cert.RefFfnRowsIdeal.Facts] : Prop :=
  ∀ (m : (ℓ : Loc Cert.RefFfnRowsIdeal.nD Cert.RefFfnRowsIdeal.τ Cert.RefFfnRowsIdeal.sig) → Buf (Elt Ideal) ℓ) (g : Dev Cert.RefFfnRowsIdeal.nD → PrngReg), Pre_RefFfnRowsIdeal m →
    θ_run (Cert.RefFfnRowsIdeal.defs (F := Ideal)) (onTc (τ := Cert.RefFfnRowsIdeal.τ) (Cert.RefFfnRowsIdeal.main (F := Ideal))) ⟨m, fun _ => 0, g⟩ (fun r => (∀ c : Dev Cert.RefFfnRowsIdeal.nD,
      r.2.mem ((c.tc : Thread Cert.RefFfnRowsIdeal.nD Cert.RefFfnRowsIdeal.τ).loc Cert.RefFfnRowsIdeal.main_arg0) = m ((c.tc : Thread Cert.RefFfnRowsIdeal.nD Cert.RefFfnRowsIdeal.τ).loc Cert.RefFfnRowsIdeal.main_arg0)
      ∧ r.2.mem ((c.tc : Thread Cert.RefFfnRowsIdeal.nD Cert.RefFfnRowsIdeal.τ).loc Cert.RefFfnRowsIdeal.main_arg1) = m ((c.tc : Thread Cert.RefFfnRowsIdeal.nD Cert.RefFfnRowsIdeal.τ).loc Cert.RefFfnRowsIdeal.main_arg1)
      ∧ r.2.mem ((c.tc : Thread Cert.RefFfnRowsIdeal.nD Cert.RefFfnRowsIdeal.τ).loc Cert.RefFfnRowsIdeal.main_arg2) = m ((c.tc : Thread Cert.RefFfnRowsIdeal.nD Cert.RefFfnRowsIdeal.τ).loc Cert.RefFfnRowsIdeal.main_arg2)
      ∧ r.2.mem ((c.tc : Thread Cert.RefFfnRowsIdeal.nD Cert.RefFfnRowsIdeal.τ).loc Cert.RefFfnRowsIdeal.main_arg3) = m ((c.tc : Thread Cert.RefFfnRowsIdeal.nD Cert.RefFfnRowsIdeal.τ).loc Cert.RefFfnRowsIdeal.main_arg3)
      ∧ r.2.mem ((c.tc : Thread Cert.RefFfnRowsIdeal.nD Cert.RefFfnRowsIdeal.τ).loc Cert.RefFfnRowsIdeal.main_arg4) = m ((c.tc : Thread Cert.RefFfnRowsIdeal.nD Cert.RefFfnRowsIdeal.τ).loc Cert.RefFfnRowsIdeal.main_arg4)
      ∧ r.2.mem ((c.tc : Thread Cert.RefFfnRowsIdeal.nD Cert.RefFfnRowsIdeal.τ).loc Cert.RefFfnRowsIdeal.main_arg5) = m ((c.tc : Thread Cert.RefFfnRowsIdeal.nD Cert.RefFfnRowsIdeal.τ).loc Cert.RefFfnRowsIdeal.main_arg5)
      ∧ r.2.mem ((c.tc : Thread Cert.RefFfnRowsIdeal.nD Cert.RefFfnRowsIdeal.τ).loc Cert.RefFfnRowsIdeal.main_arg6) = m ((c.tc : Thread Cert.RefFfnRowsIdeal.nD Cert.RefFfnRowsIdeal.τ).loc Cert.RefFfnRowsIdeal.main_arg6))
      ∧ r.2.sem = fun _ => 0)

def quiescent_FfnFinal [hFfnFinal : Cert.FfnFinal.Facts] : Prop :=
  ∀ (m : (ℓ : Loc Cert.FfnFinal.nD Cert.FfnFinal.τ Cert.FfnFinal.sig) → Buf (Elt Bits) ℓ) (g : Dev Cert.FfnFinal.nD → PrngReg), Pre_FfnFinal m →
    θ_run (Cert.FfnFinal.defs (F := Bits)) (onTc (τ := Cert.FfnFinal.τ) (Cert.FfnFinal.main (F := Bits))) ⟨m, fun _ => 0, g⟩ (fun r => (∀ c : Dev Cert.FfnFinal.nD,
      r.2.mem ((c.tc : Thread Cert.FfnFinal.nD Cert.FfnFinal.τ).loc Cert.FfnFinal.main_arg0) = m ((c.tc : Thread Cert.FfnFinal.nD Cert.FfnFinal.τ).loc Cert.FfnFinal.main_arg0)
      ∧ r.2.mem ((c.tc : Thread Cert.FfnFinal.nD Cert.FfnFinal.τ).loc Cert.FfnFinal.main_arg1) = m ((c.tc : Thread Cert.FfnFinal.nD Cert.FfnFinal.τ).loc Cert.FfnFinal.main_arg1)
      ∧ r.2.mem ((c.tc : Thread Cert.FfnFinal.nD Cert.FfnFinal.τ).loc Cert.FfnFinal.main_arg2) = m ((c.tc : Thread Cert.FfnFinal.nD Cert.FfnFinal.τ).loc Cert.FfnFinal.main_arg2)
      ∧ r.2.mem ((c.tc : Thread Cert.FfnFinal.nD Cert.FfnFinal.τ).loc Cert.FfnFinal.main_arg3) = m ((c.tc : Thread Cert.FfnFinal.nD Cert.FfnFinal.τ).loc Cert.FfnFinal.main_arg3)
      ∧ r.2.mem ((c.tc : Thread Cert.FfnFinal.nD Cert.FfnFinal.τ).loc Cert.FfnFinal.main_arg4) = m ((c.tc : Thread Cert.FfnFinal.nD Cert.FfnFinal.τ).loc Cert.FfnFinal.main_arg4)
      ∧ r.2.mem ((c.tc : Thread Cert.FfnFinal.nD Cert.FfnFinal.τ).loc Cert.FfnFinal.main_arg5) = m ((c.tc : Thread Cert.FfnFinal.nD Cert.FfnFinal.τ).loc Cert.FfnFinal.main_arg5)
      ∧ r.2.mem ((c.tc : Thread Cert.FfnFinal.nD Cert.FfnFinal.τ).loc Cert.FfnFinal.main_arg6) = m ((c.tc : Thread Cert.FfnFinal.nD Cert.FfnFinal.τ).loc Cert.FfnFinal.main_arg6)
      ∧ r.2.mem ((c.tc : Thread Cert.FfnFinal.nD Cert.FfnFinal.τ).loc Cert.FfnFinal.main_arg7) = m ((c.tc : Thread Cert.FfnFinal.nD Cert.FfnFinal.τ).loc Cert.FfnFinal.main_arg7))
      ∧ r.2.sem = fun _ => 0)

def quiescent_FfnFinalIdeal [hFfnFinalIdeal : Cert.FfnFinalIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg), Pre_FfnFinalIdeal m →
    θ_run (Cert.FfnFinalIdeal.defs (F := Ideal)) (onTc (τ := Cert.FfnFinalIdeal.τ) (Cert.FfnFinalIdeal.main (F := Ideal))) ⟨m, fun _ => 0, g⟩ (fun r => (∀ c : Dev Cert.FfnFinalIdeal.nD,
      r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
      ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
      ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
      ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
      ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4)
      ∧ r.2.mem ((c.tc : Thread Cert.FfnFinalIdeal.nD Cert.FfnFinalIdeal.τ).loc Cert.FfnFinalIdeal.main_arg5) = m ((c.tc : Thread Cert.FfnFinalIdeal.nD Cert.FfnFinalIdeal.τ).loc Cert.FfnFinalIdeal.main_arg5)
      ∧ r.2.mem ((c.tc : Thread Cert.FfnFinalIdeal.nD Cert.FfnFinalIdeal.τ).loc Cert.FfnFinalIdeal.main_arg6) = m ((c.tc : Thread Cert.FfnFinalIdeal.nD Cert.FfnFinalIdeal.τ).loc Cert.FfnFinalIdeal.main_arg6)
      ∧ r.2.mem ((c.tc : Thread Cert.FfnFinalIdeal.nD Cert.FfnFinalIdeal.τ).loc Cert.FfnFinalIdeal.main_arg7) = m ((c.tc : Thread Cert.FfnFinalIdeal.nD Cert.FfnFinalIdeal.τ).loc Cert.FfnFinalIdeal.main_arg7))
      ∧ r.2.sem = fun _ => 0)

def quiescent_RefFfnFinalIdeal [hRefFfnFinalIdeal : Cert.RefFfnFinalIdeal.Facts] : Prop :=
  ∀ (m : (ℓ : Loc Cert.RefFfnFinalIdeal.nD Cert.RefFfnFinalIdeal.τ Cert.RefFfnFinalIdeal.sig) → Buf (Elt Ideal) ℓ) (g : Dev Cert.RefFfnFinalIdeal.nD → PrngReg), Pre_RefFfnFinalIdeal m →
    θ_run (Cert.RefFfnFinalIdeal.defs (F := Ideal)) (onTc (τ := Cert.RefFfnFinalIdeal.τ) (Cert.RefFfnFinalIdeal.main (F := Ideal))) ⟨m, fun _ => 0, g⟩ (fun r => (∀ c : Dev Cert.RefFfnFinalIdeal.nD,
      r.2.mem ((c.tc : Thread Cert.RefFfnFinalIdeal.nD Cert.RefFfnFinalIdeal.τ).loc Cert.RefFfnFinalIdeal.main_arg0) = m ((c.tc : Thread Cert.RefFfnFinalIdeal.nD Cert.RefFfnFinalIdeal.τ).loc Cert.RefFfnFinalIdeal.main_arg0)
      ∧ r.2.mem ((c.tc : Thread Cert.RefFfnFinalIdeal.nD Cert.RefFfnFinalIdeal.τ).loc Cert.RefFfnFinalIdeal.main_arg1) = m ((c.tc : Thread Cert.RefFfnFinalIdeal.nD Cert.RefFfnFinalIdeal.τ).loc Cert.RefFfnFinalIdeal.main_arg1)
      ∧ r.2.mem ((c.tc : Thread Cert.RefFfnFinalIdeal.nD Cert.RefFfnFinalIdeal.τ).loc Cert.RefFfnFinalIdeal.main_arg2) = m ((c.tc : Thread Cert.RefFfnFinalIdeal.nD Cert.RefFfnFinalIdeal.τ).loc Cert.RefFfnFinalIdeal.main_arg2)
      ∧ r.2.mem ((c.tc : Thread Cert.RefFfnFinalIdeal.nD Cert.RefFfnFinalIdeal.τ).loc Cert.RefFfnFinalIdeal.main_arg3) = m ((c.tc : Thread Cert.RefFfnFinalIdeal.nD Cert.RefFfnFinalIdeal.τ).loc Cert.RefFfnFinalIdeal.main_arg3)
      ∧ r.2.mem ((c.tc : Thread Cert.RefFfnFinalIdeal.nD Cert.RefFfnFinalIdeal.τ).loc Cert.RefFfnFinalIdeal.main_arg4) = m ((c.tc : Thread Cert.RefFfnFinalIdeal.nD Cert.RefFfnFinalIdeal.τ).loc Cert.RefFfnFinalIdeal.main_arg4)
      ∧ r.2.mem ((c.tc : Thread Cert.RefFfnFinalIdeal.nD Cert.RefFfnFinalIdeal.τ).loc Cert.RefFfnFinalIdeal.main_arg5) = m ((c.tc : Thread Cert.RefFfnFinalIdeal.nD Cert.RefFfnFinalIdeal.τ).loc Cert.RefFfnFinalIdeal.main_arg5)
      ∧ r.2.mem ((c.tc : Thread Cert.RefFfnFinalIdeal.nD Cert.RefFfnFinalIdeal.τ).loc Cert.RefFfnFinalIdeal.main_arg6) = m ((c.tc : Thread Cert.RefFfnFinalIdeal.nD Cert.RefFfnFinalIdeal.τ).loc Cert.RefFfnFinalIdeal.main_arg6)
      ∧ r.2.mem ((c.tc : Thread Cert.RefFfnFinalIdeal.nD Cert.RefFfnFinalIdeal.τ).loc Cert.RefFfnFinalIdeal.main_arg7) = m ((c.tc : Thread Cert.RefFfnFinalIdeal.nD Cert.RefFfnFinalIdeal.τ).loc Cert.RefFfnFinalIdeal.main_arg7))
      ∧ r.2.sem = fun _ => 0)

def quiescent_GmlpIn [hGmlpIn : Cert.GmlpIn.Facts] : Prop :=
  ∀ (m : (ℓ : Loc Cert.GmlpIn.nD Cert.GmlpIn.τ Cert.GmlpIn.sig) → Buf (Elt Bits) ℓ) (g : Dev Cert.GmlpIn.nD → PrngReg), Pre_GmlpIn m →
    θ_run (Cert.GmlpIn.defs (F := Bits)) (onTc (τ := Cert.GmlpIn.τ) (Cert.GmlpIn.main (F := Bits))) ⟨m, fun _ => 0, g⟩ (fun r => (∀ c : Dev Cert.GmlpIn.nD,
      r.2.mem ((c.tc : Thread Cert.GmlpIn.nD Cert.GmlpIn.τ).loc Cert.GmlpIn.main_arg0) = m ((c.tc : Thread Cert.GmlpIn.nD Cert.GmlpIn.τ).loc Cert.GmlpIn.main_arg0)
      ∧ r.2.mem ((c.tc : Thread Cert.GmlpIn.nD Cert.GmlpIn.τ).loc Cert.GmlpIn.main_arg1) = m ((c.tc : Thread Cert.GmlpIn.nD Cert.GmlpIn.τ).loc Cert.GmlpIn.main_arg1)
      ∧ r.2.mem ((c.tc : Thread Cert.GmlpIn.nD Cert.GmlpIn.τ).loc Cert.GmlpIn.main_arg2) = m ((c.tc : Thread Cert.GmlpIn.nD Cert.GmlpIn.τ).loc Cert.GmlpIn.main_arg2)
      ∧ r.2.mem ((c.tc : Thread Cert.GmlpIn.nD Cert.GmlpIn.τ).loc Cert.GmlpIn.main_arg3) = m ((c.tc : Thread Cert.GmlpIn.nD Cert.GmlpIn.τ).loc Cert.GmlpIn.main_arg3))
      ∧ r.2.sem = fun _ => 0)

def quiescent_GmlpInIdeal [hGmlpInIdeal : Cert.GmlpInIdeal.Facts] : Prop :=
  ∀ (m : (ℓ : Loc Cert.GmlpInIdeal.nD Cert.GmlpInIdeal.τ Cert.GmlpInIdeal.sig) → Buf (Elt Ideal) ℓ) (g : Dev Cert.GmlpInIdeal.nD → PrngReg), Pre_GmlpInIdeal m →
    θ_run (Cert.GmlpInIdeal.defs (F := Ideal)) (onTc (τ := Cert.GmlpInIdeal.τ) (Cert.GmlpInIdeal.main (F := Ideal))) ⟨m, fun _ => 0, g⟩ (fun r => (∀ c : Dev Cert.GmlpInIdeal.nD,
      r.2.mem ((c.tc : Thread Cert.GmlpInIdeal.nD Cert.GmlpInIdeal.τ).loc Cert.GmlpInIdeal.main_arg0) = m ((c.tc : Thread Cert.GmlpInIdeal.nD Cert.GmlpInIdeal.τ).loc Cert.GmlpInIdeal.main_arg0)
      ∧ r.2.mem ((c.tc : Thread Cert.GmlpInIdeal.nD Cert.GmlpInIdeal.τ).loc Cert.GmlpInIdeal.main_arg1) = m ((c.tc : Thread Cert.GmlpInIdeal.nD Cert.GmlpInIdeal.τ).loc Cert.GmlpInIdeal.main_arg1)
      ∧ r.2.mem ((c.tc : Thread Cert.GmlpInIdeal.nD Cert.GmlpInIdeal.τ).loc Cert.GmlpInIdeal.main_arg2) = m ((c.tc : Thread Cert.GmlpInIdeal.nD Cert.GmlpInIdeal.τ).loc Cert.GmlpInIdeal.main_arg2)
      ∧ r.2.mem ((c.tc : Thread Cert.GmlpInIdeal.nD Cert.GmlpInIdeal.τ).loc Cert.GmlpInIdeal.main_arg3) = m ((c.tc : Thread Cert.GmlpInIdeal.nD Cert.GmlpInIdeal.τ).loc Cert.GmlpInIdeal.main_arg3))
      ∧ r.2.sem = fun _ => 0)

def quiescent_RefGmlpInIdeal [hRefGmlpInIdeal : Cert.RefGmlpInIdeal.Facts] : Prop :=
  ∀ (m : (ℓ : Loc Cert.RefGmlpInIdeal.nD Cert.RefGmlpInIdeal.τ Cert.RefGmlpInIdeal.sig) → Buf (Elt Ideal) ℓ) (g : Dev Cert.RefGmlpInIdeal.nD → PrngReg), Pre_RefGmlpInIdeal m →
    θ_run (Cert.RefGmlpInIdeal.defs (F := Ideal)) (onTc (τ := Cert.RefGmlpInIdeal.τ) (Cert.RefGmlpInIdeal.main (F := Ideal))) ⟨m, fun _ => 0, g⟩ (fun r => (∀ c : Dev Cert.RefGmlpInIdeal.nD,
      r.2.mem ((c.tc : Thread Cert.RefGmlpInIdeal.nD Cert.RefGmlpInIdeal.τ).loc Cert.RefGmlpInIdeal.main_arg0) = m ((c.tc : Thread Cert.RefGmlpInIdeal.nD Cert.RefGmlpInIdeal.τ).loc Cert.RefGmlpInIdeal.main_arg0)
      ∧ r.2.mem ((c.tc : Thread Cert.RefGmlpInIdeal.nD Cert.RefGmlpInIdeal.τ).loc Cert.RefGmlpInIdeal.main_arg1) = m ((c.tc : Thread Cert.RefGmlpInIdeal.nD Cert.RefGmlpInIdeal.τ).loc Cert.RefGmlpInIdeal.main_arg1)
      ∧ r.2.mem ((c.tc : Thread Cert.RefGmlpInIdeal.nD Cert.RefGmlpInIdeal.τ).loc Cert.RefGmlpInIdeal.main_arg2) = m ((c.tc : Thread Cert.RefGmlpInIdeal.nD Cert.RefGmlpInIdeal.τ).loc Cert.RefGmlpInIdeal.main_arg2)
      ∧ r.2.mem ((c.tc : Thread Cert.RefGmlpInIdeal.nD Cert.RefGmlpInIdeal.τ).loc Cert.RefGmlpInIdeal.main_arg3) = m ((c.tc : Thread Cert.RefGmlpInIdeal.nD Cert.RefGmlpInIdeal.τ).loc Cert.RefGmlpInIdeal.main_arg3))
      ∧ r.2.sem = fun _ => 0)

def quiescent_GlaIn [hGlaIn : Cert.GlaIn.Facts] : Prop :=
  ∀ (m : (ℓ : Loc Cert.GlaIn.nD Cert.GlaIn.τ Cert.GlaIn.sig) → Buf (Elt Bits) ℓ) (g : Dev Cert.GlaIn.nD → PrngReg), Pre_GlaIn m →
    θ_run (Cert.GlaIn.defs (F := Bits)) (onTc (τ := Cert.GlaIn.τ) (Cert.GlaIn.main (F := Bits))) ⟨m, fun _ => 0, g⟩ (fun r => (∀ c : Dev Cert.GlaIn.nD,
      r.2.mem ((c.tc : Thread Cert.GlaIn.nD Cert.GlaIn.τ).loc Cert.GlaIn.main_arg0) = m ((c.tc : Thread Cert.GlaIn.nD Cert.GlaIn.τ).loc Cert.GlaIn.main_arg0)
      ∧ r.2.mem ((c.tc : Thread Cert.GlaIn.nD Cert.GlaIn.τ).loc Cert.GlaIn.main_arg1) = m ((c.tc : Thread Cert.GlaIn.nD Cert.GlaIn.τ).loc Cert.GlaIn.main_arg1)
      ∧ r.2.mem ((c.tc : Thread Cert.GlaIn.nD Cert.GlaIn.τ).loc Cert.GlaIn.main_arg2) = m ((c.tc : Thread Cert.GlaIn.nD Cert.GlaIn.τ).loc Cert.GlaIn.main_arg2))
      ∧ r.2.sem = fun _ => 0)

def quiescent_GlaInIdeal [hGlaInIdeal : Cert.GlaInIdeal.Facts] : Prop :=
  ∀ (m : (ℓ : Loc Cert.GlaInIdeal.nD Cert.GlaInIdeal.τ Cert.GlaInIdeal.sig) → Buf (Elt Ideal) ℓ) (g : Dev Cert.GlaInIdeal.nD → PrngReg), Pre_GlaInIdeal m →
    θ_run (Cert.GlaInIdeal.defs (F := Ideal)) (onTc (τ := Cert.GlaInIdeal.τ) (Cert.GlaInIdeal.main (F := Ideal))) ⟨m, fun _ => 0, g⟩ (fun r => (∀ c : Dev Cert.GlaInIdeal.nD,
      r.2.mem ((c.tc : Thread Cert.GlaInIdeal.nD Cert.GlaInIdeal.τ).loc Cert.GlaInIdeal.main_arg0) = m ((c.tc : Thread Cert.GlaInIdeal.nD Cert.GlaInIdeal.τ).loc Cert.GlaInIdeal.main_arg0)
      ∧ r.2.mem ((c.tc : Thread Cert.GlaInIdeal.nD Cert.GlaInIdeal.τ).loc Cert.GlaInIdeal.main_arg1) = m ((c.tc : Thread Cert.GlaInIdeal.nD Cert.GlaInIdeal.τ).loc Cert.GlaInIdeal.main_arg1)
      ∧ r.2.mem ((c.tc : Thread Cert.GlaInIdeal.nD Cert.GlaInIdeal.τ).loc Cert.GlaInIdeal.main_arg2) = m ((c.tc : Thread Cert.GlaInIdeal.nD Cert.GlaInIdeal.τ).loc Cert.GlaInIdeal.main_arg2))
      ∧ r.2.sem = fun _ => 0)

def quiescent_RefGlaInIdeal [hRefGlaInIdeal : Cert.RefGlaInIdeal.Facts] : Prop :=
  ∀ (m : (ℓ : Loc Cert.RefGlaInIdeal.nD Cert.RefGlaInIdeal.τ Cert.RefGlaInIdeal.sig) → Buf (Elt Ideal) ℓ) (g : Dev Cert.RefGlaInIdeal.nD → PrngReg), Pre_RefGlaInIdeal m →
    θ_run (Cert.RefGlaInIdeal.defs (F := Ideal)) (onTc (τ := Cert.RefGlaInIdeal.τ) (Cert.RefGlaInIdeal.main (F := Ideal))) ⟨m, fun _ => 0, g⟩ (fun r => (∀ c : Dev Cert.RefGlaInIdeal.nD,
      r.2.mem ((c.tc : Thread Cert.RefGlaInIdeal.nD Cert.RefGlaInIdeal.τ).loc Cert.RefGlaInIdeal.main_arg0) = m ((c.tc : Thread Cert.RefGlaInIdeal.nD Cert.RefGlaInIdeal.τ).loc Cert.RefGlaInIdeal.main_arg0)
      ∧ r.2.mem ((c.tc : Thread Cert.RefGlaInIdeal.nD Cert.RefGlaInIdeal.τ).loc Cert.RefGlaInIdeal.main_arg1) = m ((c.tc : Thread Cert.RefGlaInIdeal.nD Cert.RefGlaInIdeal.τ).loc Cert.RefGlaInIdeal.main_arg1)
      ∧ r.2.mem ((c.tc : Thread Cert.RefGlaInIdeal.nD Cert.RefGlaInIdeal.τ).loc Cert.RefGlaInIdeal.main_arg2) = m ((c.tc : Thread Cert.RefGlaInIdeal.nD Cert.RefGlaInIdeal.τ).loc Cert.RefGlaInIdeal.main_arg2))
      ∧ r.2.sem = fun _ => 0)

def quiescent_NsaProj [hNsaProj : Cert.NsaProj.Facts] : Prop :=
  ∀ (m : (ℓ : Loc Cert.NsaProj.nD Cert.NsaProj.τ Cert.NsaProj.sig) → Buf (Elt Bits) ℓ) (g : Dev Cert.NsaProj.nD → PrngReg), Pre_NsaProj m →
    θ_run (Cert.NsaProj.defs (F := Bits)) (onTc (τ := Cert.NsaProj.τ) (Cert.NsaProj.main (F := Bits))) ⟨m, fun _ => 0, g⟩ (fun r => (∀ c : Dev Cert.NsaProj.nD,
      r.2.mem ((c.tc : Thread Cert.NsaProj.nD Cert.NsaProj.τ).loc Cert.NsaProj.main_arg0) = m ((c.tc : Thread Cert.NsaProj.nD Cert.NsaProj.τ).loc Cert.NsaProj.main_arg0)
      ∧ r.2.mem ((c.tc : Thread Cert.NsaProj.nD Cert.NsaProj.τ).loc Cert.NsaProj.main_arg1) = m ((c.tc : Thread Cert.NsaProj.nD Cert.NsaProj.τ).loc Cert.NsaProj.main_arg1)
      ∧ r.2.mem ((c.tc : Thread Cert.NsaProj.nD Cert.NsaProj.τ).loc Cert.NsaProj.main_arg2) = m ((c.tc : Thread Cert.NsaProj.nD Cert.NsaProj.τ).loc Cert.NsaProj.main_arg2))
      ∧ r.2.sem = fun _ => 0)

def quiescent_NsaProjIdeal [hNsaProjIdeal : Cert.NsaProjIdeal.Facts] : Prop :=
  ∀ (m : (ℓ : Loc Cert.NsaProjIdeal.nD Cert.NsaProjIdeal.τ Cert.NsaProjIdeal.sig) → Buf (Elt Ideal) ℓ) (g : Dev Cert.NsaProjIdeal.nD → PrngReg), Pre_NsaProjIdeal m →
    θ_run (Cert.NsaProjIdeal.defs (F := Ideal)) (onTc (τ := Cert.NsaProjIdeal.τ) (Cert.NsaProjIdeal.main (F := Ideal))) ⟨m, fun _ => 0, g⟩ (fun r => (∀ c : Dev Cert.NsaProjIdeal.nD,
      r.2.mem ((c.tc : Thread Cert.NsaProjIdeal.nD Cert.NsaProjIdeal.τ).loc Cert.NsaProjIdeal.main_arg0) = m ((c.tc : Thread Cert.NsaProjIdeal.nD Cert.NsaProjIdeal.τ).loc Cert.NsaProjIdeal.main_arg0)
      ∧ r.2.mem ((c.tc : Thread Cert.NsaProjIdeal.nD Cert.NsaProjIdeal.τ).loc Cert.NsaProjIdeal.main_arg1) = m ((c.tc : Thread Cert.NsaProjIdeal.nD Cert.NsaProjIdeal.τ).loc Cert.NsaProjIdeal.main_arg1)
      ∧ r.2.mem ((c.tc : Thread Cert.NsaProjIdeal.nD Cert.NsaProjIdeal.τ).loc Cert.NsaProjIdeal.main_arg2) = m ((c.tc : Thread Cert.NsaProjIdeal.nD Cert.NsaProjIdeal.τ).loc Cert.NsaProjIdeal.main_arg2))
      ∧ r.2.sem = fun _ => 0)

def quiescent_RefNsaProjIdeal [hRefNsaProjIdeal : Cert.RefNsaProjIdeal.Facts] : Prop :=
  ∀ (m : (ℓ : Loc Cert.RefNsaProjIdeal.nD Cert.RefNsaProjIdeal.τ Cert.RefNsaProjIdeal.sig) → Buf (Elt Ideal) ℓ) (g : Dev Cert.RefNsaProjIdeal.nD → PrngReg), Pre_RefNsaProjIdeal m →
    θ_run (Cert.RefNsaProjIdeal.defs (F := Ideal)) (onTc (τ := Cert.RefNsaProjIdeal.τ) (Cert.RefNsaProjIdeal.main (F := Ideal))) ⟨m, fun _ => 0, g⟩ (fun r => (∀ c : Dev Cert.RefNsaProjIdeal.nD,
      r.2.mem ((c.tc : Thread Cert.RefNsaProjIdeal.nD Cert.RefNsaProjIdeal.τ).loc Cert.RefNsaProjIdeal.main_arg0) = m ((c.tc : Thread Cert.RefNsaProjIdeal.nD Cert.RefNsaProjIdeal.τ).loc Cert.RefNsaProjIdeal.main_arg0)
      ∧ r.2.mem ((c.tc : Thread Cert.RefNsaProjIdeal.nD Cert.RefNsaProjIdeal.τ).loc Cert.RefNsaProjIdeal.main_arg1) = m ((c.tc : Thread Cert.RefNsaProjIdeal.nD Cert.RefNsaProjIdeal.τ).loc Cert.RefNsaProjIdeal.main_arg1)
      ∧ r.2.mem ((c.tc : Thread Cert.RefNsaProjIdeal.nD Cert.RefNsaProjIdeal.τ).loc Cert.RefNsaProjIdeal.main_arg2) = m ((c.tc : Thread Cert.RefNsaProjIdeal.nD Cert.RefNsaProjIdeal.τ).loc Cert.RefNsaProjIdeal.main_arg2))
      ∧ r.2.sem = fun _ => 0)

def quiescent_NsaCompress [hNsaCompress : Cert.NsaCompress.Facts] : Prop :=
  ∀ (m : (ℓ : Loc Cert.NsaCompress.nD Cert.NsaCompress.τ Cert.NsaCompress.sig) → Buf (Elt Bits) ℓ) (g : Dev Cert.NsaCompress.nD → PrngReg), Pre_NsaCompress m →
    θ_run (Cert.NsaCompress.defs (F := Bits)) (onTc (τ := Cert.NsaCompress.τ) (Cert.NsaCompress.main (F := Bits))) ⟨m, fun _ => 0, g⟩ (fun r => (∀ c : Dev Cert.NsaCompress.nD,
      r.2.mem ((c.tc : Thread Cert.NsaCompress.nD Cert.NsaCompress.τ).loc Cert.NsaCompress.main_arg0) = m ((c.tc : Thread Cert.NsaCompress.nD Cert.NsaCompress.τ).loc Cert.NsaCompress.main_arg0)
      ∧ r.2.mem ((c.tc : Thread Cert.NsaCompress.nD Cert.NsaCompress.τ).loc Cert.NsaCompress.main_arg1) = m ((c.tc : Thread Cert.NsaCompress.nD Cert.NsaCompress.τ).loc Cert.NsaCompress.main_arg1)
      ∧ r.2.mem ((c.tc : Thread Cert.NsaCompress.nD Cert.NsaCompress.τ).loc Cert.NsaCompress.main_arg2) = m ((c.tc : Thread Cert.NsaCompress.nD Cert.NsaCompress.τ).loc Cert.NsaCompress.main_arg2)
      ∧ r.2.mem ((c.tc : Thread Cert.NsaCompress.nD Cert.NsaCompress.τ).loc Cert.NsaCompress.main_arg3) = m ((c.tc : Thread Cert.NsaCompress.nD Cert.NsaCompress.τ).loc Cert.NsaCompress.main_arg3))
      ∧ r.2.sem = fun _ => 0)

def quiescent_NsaCompressIdeal [hNsaCompressIdeal : Cert.NsaCompressIdeal.Facts] : Prop :=
  ∀ (m : (ℓ : Loc Cert.NsaCompressIdeal.nD Cert.NsaCompressIdeal.τ Cert.NsaCompressIdeal.sig) → Buf (Elt Ideal) ℓ) (g : Dev Cert.NsaCompressIdeal.nD → PrngReg), Pre_NsaCompressIdeal m →
    θ_run (Cert.NsaCompressIdeal.defs (F := Ideal)) (onTc (τ := Cert.NsaCompressIdeal.τ) (Cert.NsaCompressIdeal.main (F := Ideal))) ⟨m, fun _ => 0, g⟩ (fun r => (∀ c : Dev Cert.NsaCompressIdeal.nD,
      r.2.mem ((c.tc : Thread Cert.NsaCompressIdeal.nD Cert.NsaCompressIdeal.τ).loc Cert.NsaCompressIdeal.main_arg0) = m ((c.tc : Thread Cert.NsaCompressIdeal.nD Cert.NsaCompressIdeal.τ).loc Cert.NsaCompressIdeal.main_arg0)
      ∧ r.2.mem ((c.tc : Thread Cert.NsaCompressIdeal.nD Cert.NsaCompressIdeal.τ).loc Cert.NsaCompressIdeal.main_arg1) = m ((c.tc : Thread Cert.NsaCompressIdeal.nD Cert.NsaCompressIdeal.τ).loc Cert.NsaCompressIdeal.main_arg1)
      ∧ r.2.mem ((c.tc : Thread Cert.NsaCompressIdeal.nD Cert.NsaCompressIdeal.τ).loc Cert.NsaCompressIdeal.main_arg2) = m ((c.tc : Thread Cert.NsaCompressIdeal.nD Cert.NsaCompressIdeal.τ).loc Cert.NsaCompressIdeal.main_arg2)
      ∧ r.2.mem ((c.tc : Thread Cert.NsaCompressIdeal.nD Cert.NsaCompressIdeal.τ).loc Cert.NsaCompressIdeal.main_arg3) = m ((c.tc : Thread Cert.NsaCompressIdeal.nD Cert.NsaCompressIdeal.τ).loc Cert.NsaCompressIdeal.main_arg3))
      ∧ r.2.sem = fun _ => 0)

def quiescent_RefNsaCompressIdeal [hRefNsaCompressIdeal : Cert.RefNsaCompressIdeal.Facts] : Prop :=
  ∀ (m : (ℓ : Loc Cert.RefNsaCompressIdeal.nD Cert.RefNsaCompressIdeal.τ Cert.RefNsaCompressIdeal.sig) → Buf (Elt Ideal) ℓ) (g : Dev Cert.RefNsaCompressIdeal.nD → PrngReg), Pre_RefNsaCompressIdeal m →
    θ_run (Cert.RefNsaCompressIdeal.defs (F := Ideal)) (onTc (τ := Cert.RefNsaCompressIdeal.τ) (Cert.RefNsaCompressIdeal.main (F := Ideal))) ⟨m, fun _ => 0, g⟩ (fun r => (∀ c : Dev Cert.RefNsaCompressIdeal.nD,
      r.2.mem ((c.tc : Thread Cert.RefNsaCompressIdeal.nD Cert.RefNsaCompressIdeal.τ).loc Cert.RefNsaCompressIdeal.main_arg0) = m ((c.tc : Thread Cert.RefNsaCompressIdeal.nD Cert.RefNsaCompressIdeal.τ).loc Cert.RefNsaCompressIdeal.main_arg0)
      ∧ r.2.mem ((c.tc : Thread Cert.RefNsaCompressIdeal.nD Cert.RefNsaCompressIdeal.τ).loc Cert.RefNsaCompressIdeal.main_arg1) = m ((c.tc : Thread Cert.RefNsaCompressIdeal.nD Cert.RefNsaCompressIdeal.τ).loc Cert.RefNsaCompressIdeal.main_arg1)
      ∧ r.2.mem ((c.tc : Thread Cert.RefNsaCompressIdeal.nD Cert.RefNsaCompressIdeal.τ).loc Cert.RefNsaCompressIdeal.main_arg2) = m ((c.tc : Thread Cert.RefNsaCompressIdeal.nD Cert.RefNsaCompressIdeal.τ).loc Cert.RefNsaCompressIdeal.main_arg2)
      ∧ r.2.mem ((c.tc : Thread Cert.RefNsaCompressIdeal.nD Cert.RefNsaCompressIdeal.τ).loc Cert.RefNsaCompressIdeal.main_arg3) = m ((c.tc : Thread Cert.RefNsaCompressIdeal.nD Cert.RefNsaCompressIdeal.τ).loc Cert.RefNsaCompressIdeal.main_arg3))
      ∧ r.2.sem = fun _ => 0)

def preserves_Sgu_SguIdeal : Prop :=
  True

def algebraic_SguIdeal_RefSguIdeal [hSguIdeal : Cert.SguIdeal.Facts] [hRefSguIdeal : Cert.RefSguIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.RefSguIdeal.nD Cert.RefSguIdeal.τ Cert.RefSguIdeal.sig) → Buf (Elt Ideal) ℓ) (g' : Dev Cert.RefSguIdeal.nD → PrngReg), Pre_SguIdeal m →
    (∀ c : Dev Cert.SguIdeal.nD,
      m' ((c.tc : Thread Cert.RefSguIdeal.nD Cert.RefSguIdeal.τ).loc Cert.RefSguIdeal.main_arg0) = m ((c.tc : Thread Cert.SguIdeal.nD Cert.SguIdeal.τ).loc Cert.SguIdeal.main_arg0)
      ∧ m' ((c.tc : Thread Cert.RefSguIdeal.nD Cert.RefSguIdeal.τ).loc Cert.RefSguIdeal.main_arg1) = m ((c.tc : Thread Cert.SguIdeal.nD Cert.SguIdeal.τ).loc Cert.SguIdeal.main_arg1)
      ∧ m' ((c.tc : Thread Cert.RefSguIdeal.nD Cert.RefSguIdeal.τ).loc Cert.RefSguIdeal.main_arg2) = m ((c.tc : Thread Cert.SguIdeal.nD Cert.SguIdeal.τ).loc Cert.SguIdeal.main_arg2)
      ∧ m' ((c.tc : Thread Cert.RefSguIdeal.nD Cert.RefSguIdeal.τ).loc Cert.RefSguIdeal.main_arg3) = m ((c.tc : Thread Cert.SguIdeal.nD Cert.SguIdeal.τ).loc Cert.SguIdeal.main_arg3)
      ∧ m' ((c.tc : Thread Cert.RefSguIdeal.nD Cert.RefSguIdeal.τ).loc Cert.RefSguIdeal.main_arg4) = m ((c.tc : Thread Cert.SguIdeal.nD Cert.SguIdeal.τ).loc Cert.SguIdeal.main_arg4)
      ∧ m' ((c.tc : Thread Cert.RefSguIdeal.nD Cert.RefSguIdeal.τ).loc Cert.RefSguIdeal.main_arg5) = m ((c.tc : Thread Cert.SguIdeal.nD Cert.SguIdeal.τ).loc Cert.SguIdeal.main_arg5)
      ∧ m' ((c.tc : Thread Cert.RefSguIdeal.nD Cert.RefSguIdeal.τ).loc Cert.RefSguIdeal.main_arg6) = m ((c.tc : Thread Cert.SguIdeal.nD Cert.SguIdeal.τ).loc Cert.SguIdeal.main_arg6)) →
    ∃ (v0 : (c : Dev Cert.SguIdeal.nD) → Buf (Elt Ideal) ((c.tc : Thread Cert.SguIdeal.nD Cert.SguIdeal.τ).loc Cert.SguIdeal.main_v6)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v6) = v0 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
          ∧ r.2.mem ((c.tc : Thread Cert.SguIdeal.nD Cert.SguIdeal.τ).loc Cert.SguIdeal.main_arg5) = m ((c.tc : Thread Cert.SguIdeal.nD Cert.SguIdeal.τ).loc Cert.SguIdeal.main_arg5)
          ∧ r.2.mem ((c.tc : Thread Cert.SguIdeal.nD Cert.SguIdeal.τ).loc Cert.SguIdeal.main_arg6) = m ((c.tc : Thread Cert.SguIdeal.nD Cert.SguIdeal.τ).loc Cert.SguIdeal.main_arg6))
      ∧ θ_run (Cert.RefSguIdeal.defs (F := Ideal)) (onTc (τ := Cert.RefSguIdeal.τ) (Cert.RefSguIdeal.main (F := Ideal))) ⟨m', fun _ => 0, g'⟩ (fun r => ∀ c : Dev Cert.RefSguIdeal.nD,
          r.2.mem ((c.tc : Thread Cert.RefSguIdeal.nD Cert.RefSguIdeal.τ).loc Cert.RefSguIdeal.main_v44) = v0 c
          ∧ r.2.mem ((c.tc : Thread Cert.RefSguIdeal.nD Cert.RefSguIdeal.τ).loc Cert.RefSguIdeal.main_arg0) = m' ((c.tc : Thread Cert.RefSguIdeal.nD Cert.RefSguIdeal.τ).loc Cert.RefSguIdeal.main_arg0)
          ∧ r.2.mem ((c.tc : Thread Cert.RefSguIdeal.nD Cert.RefSguIdeal.τ).loc Cert.RefSguIdeal.main_arg1) = m' ((c.tc : Thread Cert.RefSguIdeal.nD Cert.RefSguIdeal.τ).loc Cert.RefSguIdeal.main_arg1)
          ∧ r.2.mem ((c.tc : Thread Cert.RefSguIdeal.nD Cert.RefSguIdeal.τ).loc Cert.RefSguIdeal.main_arg2) = m' ((c.tc : Thread Cert.RefSguIdeal.nD Cert.RefSguIdeal.τ).loc Cert.RefSguIdeal.main_arg2)
          ∧ r.2.mem ((c.tc : Thread Cert.RefSguIdeal.nD Cert.RefSguIdeal.τ).loc Cert.RefSguIdeal.main_arg3) = m' ((c.tc : Thread Cert.RefSguIdeal.nD Cert.RefSguIdeal.τ).loc Cert.RefSguIdeal.main_arg3)
          ∧ r.2.mem ((c.tc : Thread Cert.RefSguIdeal.nD Cert.RefSguIdeal.τ).loc Cert.RefSguIdeal.main_arg4) = m' ((c.tc : Thread Cert.RefSguIdeal.nD Cert.RefSguIdeal.τ).loc Cert.RefSguIdeal.main_arg4)
          ∧ r.2.mem ((c.tc : Thread Cert.RefSguIdeal.nD Cert.RefSguIdeal.τ).loc Cert.RefSguIdeal.main_arg5) = m' ((c.tc : Thread Cert.RefSguIdeal.nD Cert.RefSguIdeal.τ).loc Cert.RefSguIdeal.main_arg5)
          ∧ r.2.mem ((c.tc : Thread Cert.RefSguIdeal.nD Cert.RefSguIdeal.τ).loc Cert.RefSguIdeal.main_arg6) = m' ((c.tc : Thread Cert.RefSguIdeal.nD Cert.RefSguIdeal.τ).loc Cert.RefSguIdeal.main_arg6))

def preserves_Ffn_FfnIdeal : Prop :=
  True

def algebraic_FfnIdeal_RefFfnIdeal [hFfnIdeal : Cert.FfnIdeal.Facts] [hRefFfnIdeal : Cert.RefFfnIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.RefFfnIdeal.nD Cert.RefFfnIdeal.τ Cert.RefFfnIdeal.sig) → Buf (Elt Ideal) ℓ) (g' : Dev Cert.RefFfnIdeal.nD → PrngReg), Pre_FfnIdeal m →
    (∀ c : Dev Cert.FfnIdeal.nD,
      m' ((c.tc : Thread Cert.RefFfnIdeal.nD Cert.RefFfnIdeal.τ).loc Cert.RefFfnIdeal.main_arg0) = m ((c.tc : Thread Cert.FfnIdeal.nD Cert.FfnIdeal.τ).loc Cert.FfnIdeal.main_arg0)
      ∧ m' ((c.tc : Thread Cert.RefFfnIdeal.nD Cert.RefFfnIdeal.τ).loc Cert.RefFfnIdeal.main_arg1) = m ((c.tc : Thread Cert.FfnIdeal.nD Cert.FfnIdeal.τ).loc Cert.FfnIdeal.main_arg1)
      ∧ m' ((c.tc : Thread Cert.RefFfnIdeal.nD Cert.RefFfnIdeal.τ).loc Cert.RefFfnIdeal.main_arg2) = m ((c.tc : Thread Cert.FfnIdeal.nD Cert.FfnIdeal.τ).loc Cert.FfnIdeal.main_arg2)
      ∧ m' ((c.tc : Thread Cert.RefFfnIdeal.nD Cert.RefFfnIdeal.τ).loc Cert.RefFfnIdeal.main_arg3) = m ((c.tc : Thread Cert.FfnIdeal.nD Cert.FfnIdeal.τ).loc Cert.FfnIdeal.main_arg3)
      ∧ m' ((c.tc : Thread Cert.RefFfnIdeal.nD Cert.RefFfnIdeal.τ).loc Cert.RefFfnIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.RefFfnIdeal.defs (F := Ideal)) (onTc (τ := Cert.RefFfnIdeal.τ) (Cert.RefFfnIdeal.main (F := Ideal))) ⟨m', fun _ => 0, g'⟩ (fun r => ∀ c : Dev Cert.RefFfnIdeal.nD,
          r.2.mem ((c.tc : Thread Cert.RefFfnIdeal.nD Cert.RefFfnIdeal.τ).loc Cert.RefFfnIdeal.main_v18) = v0 c
          ∧ r.2.mem ((c.tc : Thread Cert.RefFfnIdeal.nD Cert.RefFfnIdeal.τ).loc Cert.RefFfnIdeal.main_arg0) = m' ((c.tc : Thread Cert.RefFfnIdeal.nD Cert.RefFfnIdeal.τ).loc Cert.RefFfnIdeal.main_arg0)
          ∧ r.2.mem ((c.tc : Thread Cert.RefFfnIdeal.nD Cert.RefFfnIdeal.τ).loc Cert.RefFfnIdeal.main_arg1) = m' ((c.tc : Thread Cert.RefFfnIdeal.nD Cert.RefFfnIdeal.τ).loc Cert.RefFfnIdeal.main_arg1)
          ∧ r.2.mem ((c.tc : Thread Cert.RefFfnIdeal.nD Cert.RefFfnIdeal.τ).loc Cert.RefFfnIdeal.main_arg2) = m' ((c.tc : Thread Cert.RefFfnIdeal.nD Cert.RefFfnIdeal.τ).loc Cert.RefFfnIdeal.main_arg2)
          ∧ r.2.mem ((c.tc : Thread Cert.RefFfnIdeal.nD Cert.RefFfnIdeal.τ).loc Cert.RefFfnIdeal.main_arg3) = m' ((c.tc : Thread Cert.RefFfnIdeal.nD Cert.RefFfnIdeal.τ).loc Cert.RefFfnIdeal.main_arg3)
          ∧ r.2.mem ((c.tc : Thread Cert.RefFfnIdeal.nD Cert.RefFfnIdeal.τ).loc Cert.RefFfnIdeal.main_arg4) = m' ((c.tc : Thread Cert.RefFfnIdeal.nD Cert.RefFfnIdeal.τ).loc Cert.RefFfnIdeal.main_arg4))

def preserves_FfnRows_FfnRowsIdeal : Prop :=
  True

def algebraic_FfnRowsIdeal_RefFfnRowsIdeal [hFfnRowsIdeal : Cert.FfnRowsIdeal.Facts] [hRefFfnRowsIdeal : Cert.RefFfnRowsIdeal.Facts] : Prop :=
  ∀ (m : (ℓ : Loc Cert.FfnRowsIdeal.nD Cert.FfnRowsIdeal.τ Cert.FfnRowsIdeal.sig) → Buf (Elt Ideal) ℓ) (g : Dev Cert.FfnRowsIdeal.nD → PrngReg)
    (m' : (ℓ : Loc Cert.RefFfnRowsIdeal.nD Cert.RefFfnRowsIdeal.τ Cert.RefFfnRowsIdeal.sig) → Buf (Elt Ideal) ℓ) (g' : Dev Cert.RefFfnRowsIdeal.nD → PrngReg), Pre_FfnRowsIdeal m →
    (∀ c : Dev Cert.FfnRowsIdeal.nD,
      m' ((c.tc : Thread Cert.RefFfnRowsIdeal.nD Cert.RefFfnRowsIdeal.τ).loc Cert.RefFfnRowsIdeal.main_arg0) = m ((c.tc : Thread Cert.FfnRowsIdeal.nD Cert.FfnRowsIdeal.τ).loc Cert.FfnRowsIdeal.main_arg0)
      ∧ m' ((c.tc : Thread Cert.RefFfnRowsIdeal.nD Cert.RefFfnRowsIdeal.τ).loc Cert.RefFfnRowsIdeal.main_arg1) = m ((c.tc : Thread Cert.FfnRowsIdeal.nD Cert.FfnRowsIdeal.τ).loc Cert.FfnRowsIdeal.main_arg1)
      ∧ m' ((c.tc : Thread Cert.RefFfnRowsIdeal.nD Cert.RefFfnRowsIdeal.τ).loc Cert.RefFfnRowsIdeal.main_arg2) = m ((c.tc : Thread Cert.FfnRowsIdeal.nD Cert.FfnRowsIdeal.τ).loc Cert.FfnRowsIdeal.main_arg2)
      ∧ m' ((c.tc : Thread Cert.RefFfnRowsIdeal.nD Cert.RefFfnRowsIdeal.τ).loc Cert.RefFfnRowsIdeal.main_arg3) = m ((c.tc : Thread Cert.FfnRowsIdeal.nD Cert.FfnRowsIdeal.τ).loc Cert.FfnRowsIdeal.main_arg3)
      ∧ m' ((c.tc : Thread Cert.RefFfnRowsIdeal.nD Cert.RefFfnRowsIdeal.τ).loc Cert.RefFfnRowsIdeal.main_arg4) = m ((c.tc : Thread Cert.FfnRowsIdeal.nD Cert.FfnRowsIdeal.τ).loc Cert.FfnRowsIdeal.main_arg4)
      ∧ m' ((c.tc : Thread Cert.RefFfnRowsIdeal.nD Cert.RefFfnRowsIdeal.τ).loc Cert.RefFfnRowsIdeal.main_arg5) = m ((c.tc : Thread Cert.FfnRowsIdeal.nD Cert.FfnRowsIdeal.τ).loc Cert.FfnRowsIdeal.main_arg5)
      ∧ m' ((c.tc : Thread Cert.RefFfnRowsIdeal.nD Cert.RefFfnRowsIdeal.τ).loc Cert.RefFfnRowsIdeal.main_arg6) = m ((c.tc : Thread Cert.FfnRowsIdeal.nD Cert.FfnRowsIdeal.τ).loc Cert.FfnRowsIdeal.main_arg6)) →
    ∃ (v0 : (c : Dev Cert.FfnRowsIdeal.nD) → Buf (Elt Ideal) ((c.tc : Thread Cert.FfnRowsIdeal.nD Cert.FfnRowsIdeal.τ).loc Cert.FfnRowsIdeal.main_v5)),
      θ_run (Cert.FfnRowsIdeal.defs (F := Ideal)) (onTc (τ := Cert.FfnRowsIdeal.τ) (Cert.FfnRowsIdeal.main (F := Ideal))) ⟨m, fun _ => 0, g⟩ (fun r => ∀ c : Dev Cert.FfnRowsIdeal.nD,
          r.2.mem ((c.tc : Thread Cert.FfnRowsIdeal.nD Cert.FfnRowsIdeal.τ).loc Cert.FfnRowsIdeal.main_v5) = v0 c
          ∧ r.2.mem ((c.tc : Thread Cert.FfnRowsIdeal.nD Cert.FfnRowsIdeal.τ).loc Cert.FfnRowsIdeal.main_arg0) = m ((c.tc : Thread Cert.FfnRowsIdeal.nD Cert.FfnRowsIdeal.τ).loc Cert.FfnRowsIdeal.main_arg0)
          ∧ r.2.mem ((c.tc : Thread Cert.FfnRowsIdeal.nD Cert.FfnRowsIdeal.τ).loc Cert.FfnRowsIdeal.main_arg1) = m ((c.tc : Thread Cert.FfnRowsIdeal.nD Cert.FfnRowsIdeal.τ).loc Cert.FfnRowsIdeal.main_arg1)
          ∧ r.2.mem ((c.tc : Thread Cert.FfnRowsIdeal.nD Cert.FfnRowsIdeal.τ).loc Cert.FfnRowsIdeal.main_arg2) = m ((c.tc : Thread Cert.FfnRowsIdeal.nD Cert.FfnRowsIdeal.τ).loc Cert.FfnRowsIdeal.main_arg2)
          ∧ r.2.mem ((c.tc : Thread Cert.FfnRowsIdeal.nD Cert.FfnRowsIdeal.τ).loc Cert.FfnRowsIdeal.main_arg3) = m ((c.tc : Thread Cert.FfnRowsIdeal.nD Cert.FfnRowsIdeal.τ).loc Cert.FfnRowsIdeal.main_arg3)
          ∧ r.2.mem ((c.tc : Thread Cert.FfnRowsIdeal.nD Cert.FfnRowsIdeal.τ).loc Cert.FfnRowsIdeal.main_arg4) = m ((c.tc : Thread Cert.FfnRowsIdeal.nD Cert.FfnRowsIdeal.τ).loc Cert.FfnRowsIdeal.main_arg4)
          ∧ r.2.mem ((c.tc : Thread Cert.FfnRowsIdeal.nD Cert.FfnRowsIdeal.τ).loc Cert.FfnRowsIdeal.main_arg5) = m ((c.tc : Thread Cert.FfnRowsIdeal.nD Cert.FfnRowsIdeal.τ).loc Cert.FfnRowsIdeal.main_arg5)
          ∧ r.2.mem ((c.tc : Thread Cert.FfnRowsIdeal.nD Cert.FfnRowsIdeal.τ).loc Cert.FfnRowsIdeal.main_arg6) = m ((c.tc : Thread Cert.FfnRowsIdeal.nD Cert.FfnRowsIdeal.τ).loc Cert.FfnRowsIdeal.main_arg6))
      ∧ θ_run (Cert.RefFfnRowsIdeal.defs (F := Ideal)) (onTc (τ := Cert.RefFfnRowsIdeal.τ) (Cert.RefFfnRowsIdeal.main (F := Ideal))) ⟨m', fun _ => 0, g'⟩ (fun r => ∀ c : Dev Cert.RefFfnRowsIdeal.nD,
          r.2.mem ((c.tc : Thread Cert.RefFfnRowsIdeal.nD Cert.RefFfnRowsIdeal.τ).loc Cert.RefFfnRowsIdeal.main_v21) = v0 c
          ∧ r.2.mem ((c.tc : Thread Cert.RefFfnRowsIdeal.nD Cert.RefFfnRowsIdeal.τ).loc Cert.RefFfnRowsIdeal.main_arg0) = m' ((c.tc : Thread Cert.RefFfnRowsIdeal.nD Cert.RefFfnRowsIdeal.τ).loc Cert.RefFfnRowsIdeal.main_arg0)
          ∧ r.2.mem ((c.tc : Thread Cert.RefFfnRowsIdeal.nD Cert.RefFfnRowsIdeal.τ).loc Cert.RefFfnRowsIdeal.main_arg1) = m' ((c.tc : Thread Cert.RefFfnRowsIdeal.nD Cert.RefFfnRowsIdeal.τ).loc Cert.RefFfnRowsIdeal.main_arg1)
          ∧ r.2.mem ((c.tc : Thread Cert.RefFfnRowsIdeal.nD Cert.RefFfnRowsIdeal.τ).loc Cert.RefFfnRowsIdeal.main_arg2) = m' ((c.tc : Thread Cert.RefFfnRowsIdeal.nD Cert.RefFfnRowsIdeal.τ).loc Cert.RefFfnRowsIdeal.main_arg2)
          ∧ r.2.mem ((c.tc : Thread Cert.RefFfnRowsIdeal.nD Cert.RefFfnRowsIdeal.τ).loc Cert.RefFfnRowsIdeal.main_arg3) = m' ((c.tc : Thread Cert.RefFfnRowsIdeal.nD Cert.RefFfnRowsIdeal.τ).loc Cert.RefFfnRowsIdeal.main_arg3)
          ∧ r.2.mem ((c.tc : Thread Cert.RefFfnRowsIdeal.nD Cert.RefFfnRowsIdeal.τ).loc Cert.RefFfnRowsIdeal.main_arg4) = m' ((c.tc : Thread Cert.RefFfnRowsIdeal.nD Cert.RefFfnRowsIdeal.τ).loc Cert.RefFfnRowsIdeal.main_arg4)
          ∧ r.2.mem ((c.tc : Thread Cert.RefFfnRowsIdeal.nD Cert.RefFfnRowsIdeal.τ).loc Cert.RefFfnRowsIdeal.main_arg5) = m' ((c.tc : Thread Cert.RefFfnRowsIdeal.nD Cert.RefFfnRowsIdeal.τ).loc Cert.RefFfnRowsIdeal.main_arg5)
          ∧ r.2.mem ((c.tc : Thread Cert.RefFfnRowsIdeal.nD Cert.RefFfnRowsIdeal.τ).loc Cert.RefFfnRowsIdeal.main_arg6) = m' ((c.tc : Thread Cert.RefFfnRowsIdeal.nD Cert.RefFfnRowsIdeal.τ).loc Cert.RefFfnRowsIdeal.main_arg6))

def preserves_FfnFinal_FfnFinalIdeal : Prop :=
  True

def algebraic_FfnFinalIdeal_RefFfnFinalIdeal [hFfnFinalIdeal : Cert.FfnFinalIdeal.Facts] [hRefFfnFinalIdeal : Cert.RefFfnFinalIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg)
    (m' : (ℓ : Loc Cert.RefFfnFinalIdeal.nD Cert.RefFfnFinalIdeal.τ Cert.RefFfnFinalIdeal.sig) → Buf (Elt Ideal) ℓ) (g' : Dev Cert.RefFfnFinalIdeal.nD → PrngReg), Pre_FfnFinalIdeal m →
    (∀ c : Dev Cert.FfnFinalIdeal.nD,
      m' ((c.tc : Thread Cert.RefFfnFinalIdeal.nD Cert.RefFfnFinalIdeal.τ).loc Cert.RefFfnFinalIdeal.main_arg0) = m ((c.tc : Thread Cert.FfnFinalIdeal.nD Cert.FfnFinalIdeal.τ).loc Cert.FfnFinalIdeal.main_arg0)
      ∧ m' ((c.tc : Thread Cert.RefFfnFinalIdeal.nD Cert.RefFfnFinalIdeal.τ).loc Cert.RefFfnFinalIdeal.main_arg1) = m ((c.tc : Thread Cert.FfnFinalIdeal.nD Cert.FfnFinalIdeal.τ).loc Cert.FfnFinalIdeal.main_arg1)
      ∧ m' ((c.tc : Thread Cert.RefFfnFinalIdeal.nD Cert.RefFfnFinalIdeal.τ).loc Cert.RefFfnFinalIdeal.main_arg2) = m ((c.tc : Thread Cert.FfnFinalIdeal.nD Cert.FfnFinalIdeal.τ).loc Cert.FfnFinalIdeal.main_arg2)
      ∧ m' ((c.tc : Thread Cert.RefFfnFinalIdeal.nD Cert.RefFfnFinalIdeal.τ).loc Cert.RefFfnFinalIdeal.main_arg3) = m ((c.tc : Thread Cert.FfnFinalIdeal.nD Cert.FfnFinalIdeal.τ).loc Cert.FfnFinalIdeal.main_arg3)
      ∧ m' ((c.tc : Thread Cert.RefFfnFinalIdeal.nD Cert.RefFfnFinalIdeal.τ).loc Cert.RefFfnFinalIdeal.main_arg4) = m ((c.tc : Thread Cert.FfnFinalIdeal.nD Cert.FfnFinalIdeal.τ).loc Cert.FfnFinalIdeal.main_arg4)
      ∧ m' ((c.tc : Thread Cert.RefFfnFinalIdeal.nD Cert.RefFfnFinalIdeal.τ).loc Cert.RefFfnFinalIdeal.main_arg5) = m ((c.tc : Thread Cert.FfnFinalIdeal.nD Cert.FfnFinalIdeal.τ).loc Cert.FfnFinalIdeal.main_arg5)
      ∧ m' ((c.tc : Thread Cert.RefFfnFinalIdeal.nD Cert.RefFfnFinalIdeal.τ).loc Cert.RefFfnFinalIdeal.main_arg6) = m ((c.tc : Thread Cert.FfnFinalIdeal.nD Cert.FfnFinalIdeal.τ).loc Cert.FfnFinalIdeal.main_arg6)
      ∧ m' ((c.tc : Thread Cert.RefFfnFinalIdeal.nD Cert.RefFfnFinalIdeal.τ).loc Cert.RefFfnFinalIdeal.main_arg7) = m ((c.tc : Thread Cert.FfnFinalIdeal.nD Cert.FfnFinalIdeal.τ).loc Cert.FfnFinalIdeal.main_arg7)) →
    ∃ (v0 : (c : Dev Cert.FfnFinalIdeal.nD) → Buf (Elt Ideal) ((c.tc : Thread Cert.FfnFinalIdeal.nD Cert.FfnFinalIdeal.τ).loc Cert.FfnFinalIdeal.main_v6)),
      θ_run (Cert.FfnFinalIdeal.defs (F := Ideal)) (onTc (τ := Cert.FfnFinalIdeal.τ) (Cert.FfnFinalIdeal.main (F := Ideal))) ⟨m, fun _ => 0, g⟩ (fun r => ∀ c : Dev Cert.FfnFinalIdeal.nD,
          r.2.mem ((c.tc : Thread Cert.FfnFinalIdeal.nD Cert.FfnFinalIdeal.τ).loc Cert.FfnFinalIdeal.main_v6) = v0 c
          ∧ r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
          ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
          ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
          ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
          ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4)
          ∧ r.2.mem ((c.tc : Thread Cert.FfnFinalIdeal.nD Cert.FfnFinalIdeal.τ).loc Cert.FfnFinalIdeal.main_arg5) = m ((c.tc : Thread Cert.FfnFinalIdeal.nD Cert.FfnFinalIdeal.τ).loc Cert.FfnFinalIdeal.main_arg5)
          ∧ r.2.mem ((c.tc : Thread Cert.FfnFinalIdeal.nD Cert.FfnFinalIdeal.τ).loc Cert.FfnFinalIdeal.main_arg6) = m ((c.tc : Thread Cert.FfnFinalIdeal.nD Cert.FfnFinalIdeal.τ).loc Cert.FfnFinalIdeal.main_arg6)
          ∧ r.2.mem ((c.tc : Thread Cert.FfnFinalIdeal.nD Cert.FfnFinalIdeal.τ).loc Cert.FfnFinalIdeal.main_arg7) = m ((c.tc : Thread Cert.FfnFinalIdeal.nD Cert.FfnFinalIdeal.τ).loc Cert.FfnFinalIdeal.main_arg7))
      ∧ θ_run (Cert.RefFfnFinalIdeal.defs (F := Ideal)) (onTc (τ := Cert.RefFfnFinalIdeal.τ) (Cert.RefFfnFinalIdeal.main (F := Ideal))) ⟨m', fun _ => 0, g'⟩ (fun r => ∀ c : Dev Cert.RefFfnFinalIdeal.nD,
          r.2.mem ((c.tc : Thread Cert.RefFfnFinalIdeal.nD Cert.RefFfnFinalIdeal.τ).loc Cert.RefFfnFinalIdeal.main_v36) = v0 c
          ∧ r.2.mem ((c.tc : Thread Cert.RefFfnFinalIdeal.nD Cert.RefFfnFinalIdeal.τ).loc Cert.RefFfnFinalIdeal.main_arg0) = m' ((c.tc : Thread Cert.RefFfnFinalIdeal.nD Cert.RefFfnFinalIdeal.τ).loc Cert.RefFfnFinalIdeal.main_arg0)
          ∧ r.2.mem ((c.tc : Thread Cert.RefFfnFinalIdeal.nD Cert.RefFfnFinalIdeal.τ).loc Cert.RefFfnFinalIdeal.main_arg1) = m' ((c.tc : Thread Cert.RefFfnFinalIdeal.nD Cert.RefFfnFinalIdeal.τ).loc Cert.RefFfnFinalIdeal.main_arg1)
          ∧ r.2.mem ((c.tc : Thread Cert.RefFfnFinalIdeal.nD Cert.RefFfnFinalIdeal.τ).loc Cert.RefFfnFinalIdeal.main_arg2) = m' ((c.tc : Thread Cert.RefFfnFinalIdeal.nD Cert.RefFfnFinalIdeal.τ).loc Cert.RefFfnFinalIdeal.main_arg2)
          ∧ r.2.mem ((c.tc : Thread Cert.RefFfnFinalIdeal.nD Cert.RefFfnFinalIdeal.τ).loc Cert.RefFfnFinalIdeal.main_arg3) = m' ((c.tc : Thread Cert.RefFfnFinalIdeal.nD Cert.RefFfnFinalIdeal.τ).loc Cert.RefFfnFinalIdeal.main_arg3)
          ∧ r.2.mem ((c.tc : Thread Cert.RefFfnFinalIdeal.nD Cert.RefFfnFinalIdeal.τ).loc Cert.RefFfnFinalIdeal.main_arg4) = m' ((c.tc : Thread Cert.RefFfnFinalIdeal.nD Cert.RefFfnFinalIdeal.τ).loc Cert.RefFfnFinalIdeal.main_arg4)
          ∧ r.2.mem ((c.tc : Thread Cert.RefFfnFinalIdeal.nD Cert.RefFfnFinalIdeal.τ).loc Cert.RefFfnFinalIdeal.main_arg5) = m' ((c.tc : Thread Cert.RefFfnFinalIdeal.nD Cert.RefFfnFinalIdeal.τ).loc Cert.RefFfnFinalIdeal.main_arg5)
          ∧ r.2.mem ((c.tc : Thread Cert.RefFfnFinalIdeal.nD Cert.RefFfnFinalIdeal.τ).loc Cert.RefFfnFinalIdeal.main_arg6) = m' ((c.tc : Thread Cert.RefFfnFinalIdeal.nD Cert.RefFfnFinalIdeal.τ).loc Cert.RefFfnFinalIdeal.main_arg6)
          ∧ r.2.mem ((c.tc : Thread Cert.RefFfnFinalIdeal.nD Cert.RefFfnFinalIdeal.τ).loc Cert.RefFfnFinalIdeal.main_arg7) = m' ((c.tc : Thread Cert.RefFfnFinalIdeal.nD Cert.RefFfnFinalIdeal.τ).loc Cert.RefFfnFinalIdeal.main_arg7))

def preserves_GmlpIn_GmlpInIdeal : Prop :=
  True

def algebraic_GmlpInIdeal_RefGmlpInIdeal [hGmlpInIdeal : Cert.GmlpInIdeal.Facts] [hRefGmlpInIdeal : Cert.RefGmlpInIdeal.Facts] : Prop :=
  ∀ (m : (ℓ : Loc Cert.GmlpInIdeal.nD Cert.GmlpInIdeal.τ Cert.GmlpInIdeal.sig) → Buf (Elt Ideal) ℓ) (g : Dev Cert.GmlpInIdeal.nD → PrngReg)
    (m' : (ℓ : Loc Cert.RefGmlpInIdeal.nD Cert.RefGmlpInIdeal.τ Cert.RefGmlpInIdeal.sig) → Buf (Elt Ideal) ℓ) (g' : Dev Cert.RefGmlpInIdeal.nD → PrngReg), Pre_GmlpInIdeal m →
    (∀ c : Dev Cert.GmlpInIdeal.nD,
      m' ((c.tc : Thread Cert.RefGmlpInIdeal.nD Cert.RefGmlpInIdeal.τ).loc Cert.RefGmlpInIdeal.main_arg0) = m ((c.tc : Thread Cert.GmlpInIdeal.nD Cert.GmlpInIdeal.τ).loc Cert.GmlpInIdeal.main_arg0)
      ∧ m' ((c.tc : Thread Cert.RefGmlpInIdeal.nD Cert.RefGmlpInIdeal.τ).loc Cert.RefGmlpInIdeal.main_arg1) = m ((c.tc : Thread Cert.GmlpInIdeal.nD Cert.GmlpInIdeal.τ).loc Cert.GmlpInIdeal.main_arg1)
      ∧ m' ((c.tc : Thread Cert.RefGmlpInIdeal.nD Cert.RefGmlpInIdeal.τ).loc Cert.RefGmlpInIdeal.main_arg2) = m ((c.tc : Thread Cert.GmlpInIdeal.nD Cert.GmlpInIdeal.τ).loc Cert.GmlpInIdeal.main_arg2)
      ∧ m' ((c.tc : Thread Cert.RefGmlpInIdeal.nD Cert.RefGmlpInIdeal.τ).loc Cert.RefGmlpInIdeal.main_arg3) = m ((c.tc : Thread Cert.GmlpInIdeal.nD Cert.GmlpInIdeal.τ).loc Cert.GmlpInIdeal.main_arg3)) →
    ∃ (v0 : (c : Dev Cert.GmlpInIdeal.nD) → Buf (Elt Ideal) ((c.tc : Thread Cert.GmlpInIdeal.nD Cert.GmlpInIdeal.τ).loc Cert.GmlpInIdeal.main_v3)),
      θ_run (Cert.GmlpInIdeal.defs (F := Ideal)) (onTc (τ := Cert.GmlpInIdeal.τ) (Cert.GmlpInIdeal.main (F := Ideal))) ⟨m, fun _ => 0, g⟩ (fun r => ∀ c : Dev Cert.GmlpInIdeal.nD,
          r.2.mem ((c.tc : Thread Cert.GmlpInIdeal.nD Cert.GmlpInIdeal.τ).loc Cert.GmlpInIdeal.main_v3) = v0 c
          ∧ r.2.mem ((c.tc : Thread Cert.GmlpInIdeal.nD Cert.GmlpInIdeal.τ).loc Cert.GmlpInIdeal.main_arg0) = m ((c.tc : Thread Cert.GmlpInIdeal.nD Cert.GmlpInIdeal.τ).loc Cert.GmlpInIdeal.main_arg0)
          ∧ r.2.mem ((c.tc : Thread Cert.GmlpInIdeal.nD Cert.GmlpInIdeal.τ).loc Cert.GmlpInIdeal.main_arg1) = m ((c.tc : Thread Cert.GmlpInIdeal.nD Cert.GmlpInIdeal.τ).loc Cert.GmlpInIdeal.main_arg1)
          ∧ r.2.mem ((c.tc : Thread Cert.GmlpInIdeal.nD Cert.GmlpInIdeal.τ).loc Cert.GmlpInIdeal.main_arg2) = m ((c.tc : Thread Cert.GmlpInIdeal.nD Cert.GmlpInIdeal.τ).loc Cert.GmlpInIdeal.main_arg2)
          ∧ r.2.mem ((c.tc : Thread Cert.GmlpInIdeal.nD Cert.GmlpInIdeal.τ).loc Cert.GmlpInIdeal.main_arg3) = m ((c.tc : Thread Cert.GmlpInIdeal.nD Cert.GmlpInIdeal.τ).loc Cert.GmlpInIdeal.main_arg3))
      ∧ θ_run (Cert.RefGmlpInIdeal.defs (F := Ideal)) (onTc (τ := Cert.RefGmlpInIdeal.τ) (Cert.RefGmlpInIdeal.main (F := Ideal))) ⟨m', fun _ => 0, g'⟩ (fun r => ∀ c : Dev Cert.RefGmlpInIdeal.nD,
          r.2.mem ((c.tc : Thread Cert.RefGmlpInIdeal.nD Cert.RefGmlpInIdeal.τ).loc Cert.RefGmlpInIdeal.main_v30) = v0 c
          ∧ r.2.mem ((c.tc : Thread Cert.RefGmlpInIdeal.nD Cert.RefGmlpInIdeal.τ).loc Cert.RefGmlpInIdeal.main_arg0) = m' ((c.tc : Thread Cert.RefGmlpInIdeal.nD Cert.RefGmlpInIdeal.τ).loc Cert.RefGmlpInIdeal.main_arg0)
          ∧ r.2.mem ((c.tc : Thread Cert.RefGmlpInIdeal.nD Cert.RefGmlpInIdeal.τ).loc Cert.RefGmlpInIdeal.main_arg1) = m' ((c.tc : Thread Cert.RefGmlpInIdeal.nD Cert.RefGmlpInIdeal.τ).loc Cert.RefGmlpInIdeal.main_arg1)
          ∧ r.2.mem ((c.tc : Thread Cert.RefGmlpInIdeal.nD Cert.RefGmlpInIdeal.τ).loc Cert.RefGmlpInIdeal.main_arg2) = m' ((c.tc : Thread Cert.RefGmlpInIdeal.nD Cert.RefGmlpInIdeal.τ).loc Cert.RefGmlpInIdeal.main_arg2)
          ∧ r.2.mem ((c.tc : Thread Cert.RefGmlpInIdeal.nD Cert.RefGmlpInIdeal.τ).loc Cert.RefGmlpInIdeal.main_arg3) = m' ((c.tc : Thread Cert.RefGmlpInIdeal.nD Cert.RefGmlpInIdeal.τ).loc Cert.RefGmlpInIdeal.main_arg3))

def preserves_GlaIn_GlaInIdeal : Prop :=
  True

def algebraic_GlaInIdeal_RefGlaInIdeal [hGlaInIdeal : Cert.GlaInIdeal.Facts] [hRefGlaInIdeal : Cert.RefGlaInIdeal.Facts] : Prop :=
  ∀ (m : (ℓ : Loc Cert.GlaInIdeal.nD Cert.GlaInIdeal.τ Cert.GlaInIdeal.sig) → Buf (Elt Ideal) ℓ) (g : Dev Cert.GlaInIdeal.nD → PrngReg)
    (m' : (ℓ : Loc Cert.RefGlaInIdeal.nD Cert.RefGlaInIdeal.τ Cert.RefGlaInIdeal.sig) → Buf (Elt Ideal) ℓ) (g' : Dev Cert.RefGlaInIdeal.nD → PrngReg), Pre_GlaInIdeal m →
    (∀ c : Dev Cert.GlaInIdeal.nD,
      m' ((c.tc : Thread Cert.RefGlaInIdeal.nD Cert.RefGlaInIdeal.τ).loc Cert.RefGlaInIdeal.main_arg0) = m ((c.tc : Thread Cert.GlaInIdeal.nD Cert.GlaInIdeal.τ).loc Cert.GlaInIdeal.main_arg0)
      ∧ m' ((c.tc : Thread Cert.RefGlaInIdeal.nD Cert.RefGlaInIdeal.τ).loc Cert.RefGlaInIdeal.main_arg1) = m ((c.tc : Thread Cert.GlaInIdeal.nD Cert.GlaInIdeal.τ).loc Cert.GlaInIdeal.main_arg1)
      ∧ m' ((c.tc : Thread Cert.RefGlaInIdeal.nD Cert.RefGlaInIdeal.τ).loc Cert.RefGlaInIdeal.main_arg2) = m ((c.tc : Thread Cert.GlaInIdeal.nD Cert.GlaInIdeal.τ).loc Cert.GlaInIdeal.main_arg2)) →
    ∃ (v0 : (c : Dev Cert.GlaInIdeal.nD) → Buf (Elt Ideal) ((c.tc : Thread Cert.GlaInIdeal.nD Cert.GlaInIdeal.τ).loc Cert.GlaInIdeal.main_v2)),
      θ_run (Cert.GlaInIdeal.defs (F := Ideal)) (onTc (τ := Cert.GlaInIdeal.τ) (Cert.GlaInIdeal.main (F := Ideal))) ⟨m, fun _ => 0, g⟩ (fun r => ∀ c : Dev Cert.GlaInIdeal.nD,
          r.2.mem ((c.tc : Thread Cert.GlaInIdeal.nD Cert.GlaInIdeal.τ).loc Cert.GlaInIdeal.main_v2) = v0 c
          ∧ r.2.mem ((c.tc : Thread Cert.GlaInIdeal.nD Cert.GlaInIdeal.τ).loc Cert.GlaInIdeal.main_arg0) = m ((c.tc : Thread Cert.GlaInIdeal.nD Cert.GlaInIdeal.τ).loc Cert.GlaInIdeal.main_arg0)
          ∧ r.2.mem ((c.tc : Thread Cert.GlaInIdeal.nD Cert.GlaInIdeal.τ).loc Cert.GlaInIdeal.main_arg1) = m ((c.tc : Thread Cert.GlaInIdeal.nD Cert.GlaInIdeal.τ).loc Cert.GlaInIdeal.main_arg1)
          ∧ r.2.mem ((c.tc : Thread Cert.GlaInIdeal.nD Cert.GlaInIdeal.τ).loc Cert.GlaInIdeal.main_arg2) = m ((c.tc : Thread Cert.GlaInIdeal.nD Cert.GlaInIdeal.τ).loc Cert.GlaInIdeal.main_arg2))
      ∧ θ_run (Cert.RefGlaInIdeal.defs (F := Ideal)) (onTc (τ := Cert.RefGlaInIdeal.τ) (Cert.RefGlaInIdeal.main (F := Ideal))) ⟨m', fun _ => 0, g'⟩ (fun r => ∀ c : Dev Cert.RefGlaInIdeal.nD,
          r.2.mem ((c.tc : Thread Cert.RefGlaInIdeal.nD Cert.RefGlaInIdeal.τ).loc Cert.RefGlaInIdeal.main_v13) = v0 c
          ∧ r.2.mem ((c.tc : Thread Cert.RefGlaInIdeal.nD Cert.RefGlaInIdeal.τ).loc Cert.RefGlaInIdeal.main_arg0) = m' ((c.tc : Thread Cert.RefGlaInIdeal.nD Cert.RefGlaInIdeal.τ).loc Cert.RefGlaInIdeal.main_arg0)
          ∧ r.2.mem ((c.tc : Thread Cert.RefGlaInIdeal.nD Cert.RefGlaInIdeal.τ).loc Cert.RefGlaInIdeal.main_arg1) = m' ((c.tc : Thread Cert.RefGlaInIdeal.nD Cert.RefGlaInIdeal.τ).loc Cert.RefGlaInIdeal.main_arg1)
          ∧ r.2.mem ((c.tc : Thread Cert.RefGlaInIdeal.nD Cert.RefGlaInIdeal.τ).loc Cert.RefGlaInIdeal.main_arg2) = m' ((c.tc : Thread Cert.RefGlaInIdeal.nD Cert.RefGlaInIdeal.τ).loc Cert.RefGlaInIdeal.main_arg2))

def preserves_NsaProj_NsaProjIdeal : Prop :=
  True

def algebraic_NsaProjIdeal_RefNsaProjIdeal [hNsaProjIdeal : Cert.NsaProjIdeal.Facts] [hRefNsaProjIdeal : Cert.RefNsaProjIdeal.Facts] : Prop :=
  ∀ (m : (ℓ : Loc Cert.NsaProjIdeal.nD Cert.NsaProjIdeal.τ Cert.NsaProjIdeal.sig) → Buf (Elt Ideal) ℓ) (g : Dev Cert.NsaProjIdeal.nD → PrngReg)
    (m' : (ℓ : Loc Cert.RefNsaProjIdeal.nD Cert.RefNsaProjIdeal.τ Cert.RefNsaProjIdeal.sig) → Buf (Elt Ideal) ℓ) (g' : Dev Cert.RefNsaProjIdeal.nD → PrngReg), Pre_NsaProjIdeal m →
    (∀ c : Dev Cert.NsaProjIdeal.nD,
      m' ((c.tc : Thread Cert.RefNsaProjIdeal.nD Cert.RefNsaProjIdeal.τ).loc Cert.RefNsaProjIdeal.main_arg0) = m ((c.tc : Thread Cert.NsaProjIdeal.nD Cert.NsaProjIdeal.τ).loc Cert.NsaProjIdeal.main_arg0)
      ∧ m' ((c.tc : Thread Cert.RefNsaProjIdeal.nD Cert.RefNsaProjIdeal.τ).loc Cert.RefNsaProjIdeal.main_arg1) = m ((c.tc : Thread Cert.NsaProjIdeal.nD Cert.NsaProjIdeal.τ).loc Cert.NsaProjIdeal.main_arg1)
      ∧ m' ((c.tc : Thread Cert.RefNsaProjIdeal.nD Cert.RefNsaProjIdeal.τ).loc Cert.RefNsaProjIdeal.main_arg2) = m ((c.tc : Thread Cert.NsaProjIdeal.nD Cert.NsaProjIdeal.τ).loc Cert.NsaProjIdeal.main_arg2)) →
    ∃ (v0 : (c : Dev Cert.NsaProjIdeal.nD) → Buf (Elt Ideal) ((c.tc : Thread Cert.NsaProjIdeal.nD Cert.NsaProjIdeal.τ).loc Cert.NsaProjIdeal.main_v18_0)) (v1 : (c : Dev Cert.NsaProjIdeal.nD) → Buf (Elt Ideal) ((c.tc : Thread Cert.NsaProjIdeal.nD Cert.NsaProjIdeal.τ).loc Cert.NsaProjIdeal.main_v18_1)) (v2 : (c : Dev Cert.NsaProjIdeal.nD) → Buf (Elt Ideal) ((c.tc : Thread Cert.NsaProjIdeal.nD Cert.NsaProjIdeal.τ).loc Cert.NsaProjIdeal.main_v18_2)) (v3 : (c : Dev Cert.NsaProjIdeal.nD) → Buf (Elt Ideal) ((c.tc : Thread Cert.NsaProjIdeal.nD Cert.NsaProjIdeal.τ).loc Cert.NsaProjIdeal.main_v18_3)) (v4 : (c : Dev Cert.NsaProjIdeal.nD) → Buf (Elt Ideal) ((c.tc : Thread Cert.NsaProjIdeal.nD Cert.NsaProjIdeal.τ).loc Cert.NsaProjIdeal.main_v18_4)) (v5 : (c : Dev Cert.NsaProjIdeal.nD) → Buf (Elt Ideal) ((c.tc : Thread Cert.NsaProjIdeal.nD Cert.NsaProjIdeal.τ).loc Cert.NsaProjIdeal.main_v18_5)) (v6 : (c : Dev Cert.NsaProjIdeal.nD) → Buf (Elt Ideal) ((c.tc : Thread Cert.NsaProjIdeal.nD Cert.NsaProjIdeal.τ).loc Cert.NsaProjIdeal.main_v18_6)),
      θ_run (Cert.NsaProjIdeal.defs (F := Ideal)) (onTc (τ := Cert.NsaProjIdeal.τ) (Cert.NsaProjIdeal.main (F := Ideal))) ⟨m, fun _ => 0, g⟩ (fun r => ∀ c : Dev Cert.NsaProjIdeal.nD,
          r.2.mem ((c.tc : Thread Cert.NsaProjIdeal.nD Cert.NsaProjIdeal.τ).loc Cert.NsaProjIdeal.main_v18_0) = v0 c
          ∧ r.2.mem ((c.tc : Thread Cert.NsaProjIdeal.nD Cert.NsaProjIdeal.τ).loc Cert.NsaProjIdeal.main_v18_1) = v1 c
          ∧ r.2.mem ((c.tc : Thread Cert.NsaProjIdeal.nD Cert.NsaProjIdeal.τ).loc Cert.NsaProjIdeal.main_v18_2) = v2 c
          ∧ r.2.mem ((c.tc : Thread Cert.NsaProjIdeal.nD Cert.NsaProjIdeal.τ).loc Cert.NsaProjIdeal.main_v18_3) = v3 c
          ∧ r.2.mem ((c.tc : Thread Cert.NsaProjIdeal.nD Cert.NsaProjIdeal.τ).loc Cert.NsaProjIdeal.main_v18_4) = v4 c
          ∧ r.2.mem ((c.tc : Thread Cert.NsaProjIdeal.nD Cert.NsaProjIdeal.τ).loc Cert.NsaProjIdeal.main_v18_5) = v5 c
          ∧ r.2.mem ((c.tc : Thread Cert.NsaProjIdeal.nD Cert.NsaProjIdeal.τ).loc Cert.NsaProjIdeal.main_v18_6) = v6 c
          ∧ r.2.mem ((c.tc : Thread Cert.NsaProjIdeal.nD Cert.NsaProjIdeal.τ).loc Cert.NsaProjIdeal.main_arg0) = m ((c.tc : Thread Cert.NsaProjIdeal.nD Cert.NsaProjIdeal.τ).loc Cert.NsaProjIdeal.main_arg0)
          ∧ r.2.mem ((c.tc : Thread Cert.NsaProjIdeal.nD Cert.NsaProjIdeal.τ).loc Cert.NsaProjIdeal.main_arg1) = m ((c.tc : Thread Cert.NsaProjIdeal.nD Cert.NsaProjIdeal.τ).loc Cert.NsaProjIdeal.main_arg1)
          ∧ r.2.mem ((c.tc : Thread Cert.NsaProjIdeal.nD Cert.NsaProjIdeal.τ).loc Cert.NsaProjIdeal.main_arg2) = m ((c.tc : Thread Cert.NsaProjIdeal.nD Cert.NsaProjIdeal.τ).loc Cert.NsaProjIdeal.main_arg2))
      ∧ θ_run (Cert.RefNsaProjIdeal.defs (F := Ideal)) (onTc (τ := Cert.RefNsaProjIdeal.τ) (Cert.RefNsaProjIdeal.main (F := Ideal))) ⟨m', fun _ => 0, g'⟩ (fun r => ∀ c : Dev Cert.RefNsaProjIdeal.nD,
          r.2.mem ((c.tc : Thread Cert.RefNsaProjIdeal.nD Cert.RefNsaProjIdeal.τ).loc Cert.RefNsaProjIdeal.main_v41) = v0 c
          ∧ r.2.mem ((c.tc : Thread Cert.RefNsaProjIdeal.nD Cert.RefNsaProjIdeal.τ).loc Cert.RefNsaProjIdeal.main_v45) = v1 c
          ∧ r.2.mem ((c.tc : Thread Cert.RefNsaProjIdeal.nD Cert.RefNsaProjIdeal.τ).loc Cert.RefNsaProjIdeal.main_v49) = v2 c
          ∧ r.2.mem ((c.tc : Thread Cert.RefNsaProjIdeal.nD Cert.RefNsaProjIdeal.τ).loc Cert.RefNsaProjIdeal.main_v55) = v3 c
          ∧ r.2.mem ((c.tc : Thread Cert.RefNsaProjIdeal.nD Cert.RefNsaProjIdeal.τ).loc Cert.RefNsaProjIdeal.main_v61) = v4 c
          ∧ r.2.mem ((c.tc : Thread Cert.RefNsaProjIdeal.nD Cert.RefNsaProjIdeal.τ).loc Cert.RefNsaProjIdeal.main_v63) = v5 c
          ∧ r.2.mem ((c.tc : Thread Cert.RefNsaProjIdeal.nD Cert.RefNsaProjIdeal.τ).loc Cert.RefNsaProjIdeal.main_v28) = v6 c
          ∧ r.2.mem ((c.tc : Thread Cert.RefNsaProjIdeal.nD Cert.RefNsaProjIdeal.τ).loc Cert.RefNsaProjIdeal.main_arg0) = m' ((c.tc : Thread Cert.RefNsaProjIdeal.nD Cert.RefNsaProjIdeal.τ).loc Cert.RefNsaProjIdeal.main_arg0)
          ∧ r.2.mem ((c.tc : Thread Cert.RefNsaProjIdeal.nD Cert.RefNsaProjIdeal.τ).loc Cert.RefNsaProjIdeal.main_arg1) = m' ((c.tc : Thread Cert.RefNsaProjIdeal.nD Cert.RefNsaProjIdeal.τ).loc Cert.RefNsaProjIdeal.main_arg1)
          ∧ r.2.mem ((c.tc : Thread Cert.RefNsaProjIdeal.nD Cert.RefNsaProjIdeal.τ).loc Cert.RefNsaProjIdeal.main_arg2) = m' ((c.tc : Thread Cert.RefNsaProjIdeal.nD Cert.RefNsaProjIdeal.τ).loc Cert.RefNsaProjIdeal.main_arg2))

def preserves_NsaCompress_NsaCompressIdeal : Prop :=
  True

def algebraic_NsaCompressIdeal_RefNsaCompressIdeal [hNsaCompressIdeal : Cert.NsaCompressIdeal.Facts] [hRefNsaCompressIdeal : Cert.RefNsaCompressIdeal.Facts] : Prop :=
  ∀ (m : (ℓ : Loc Cert.NsaCompressIdeal.nD Cert.NsaCompressIdeal.τ Cert.NsaCompressIdeal.sig) → Buf (Elt Ideal) ℓ) (g : Dev Cert.NsaCompressIdeal.nD → PrngReg)
    (m' : (ℓ : Loc Cert.RefNsaCompressIdeal.nD Cert.RefNsaCompressIdeal.τ Cert.RefNsaCompressIdeal.sig) → Buf (Elt Ideal) ℓ) (g' : Dev Cert.RefNsaCompressIdeal.nD → PrngReg), Pre_NsaCompressIdeal m →
    (∀ c : Dev Cert.NsaCompressIdeal.nD,
      m' ((c.tc : Thread Cert.RefNsaCompressIdeal.nD Cert.RefNsaCompressIdeal.τ).loc Cert.RefNsaCompressIdeal.main_arg0) = m ((c.tc : Thread Cert.NsaCompressIdeal.nD Cert.NsaCompressIdeal.τ).loc Cert.NsaCompressIdeal.main_arg0)
      ∧ m' ((c.tc : Thread Cert.RefNsaCompressIdeal.nD Cert.RefNsaCompressIdeal.τ).loc Cert.RefNsaCompressIdeal.main_arg1) = m ((c.tc : Thread Cert.NsaCompressIdeal.nD Cert.NsaCompressIdeal.τ).loc Cert.NsaCompressIdeal.main_arg1)
      ∧ m' ((c.tc : Thread Cert.RefNsaCompressIdeal.nD Cert.RefNsaCompressIdeal.τ).loc Cert.RefNsaCompressIdeal.main_arg2) = m ((c.tc : Thread Cert.NsaCompressIdeal.nD Cert.NsaCompressIdeal.τ).loc Cert.NsaCompressIdeal.main_arg2)
      ∧ m' ((c.tc : Thread Cert.RefNsaCompressIdeal.nD Cert.RefNsaCompressIdeal.τ).loc Cert.RefNsaCompressIdeal.main_arg3) = m ((c.tc : Thread Cert.NsaCompressIdeal.nD Cert.NsaCompressIdeal.τ).loc Cert.NsaCompressIdeal.main_arg3)) →
    ∃ (v0 : (c : Dev Cert.NsaCompressIdeal.nD) → Buf (Elt Ideal) ((c.tc : Thread Cert.NsaCompressIdeal.nD Cert.NsaCompressIdeal.τ).loc Cert.NsaCompressIdeal.main_v11_0)) (v1 : (c : Dev Cert.NsaCompressIdeal.nD) → Buf (Elt Ideal) ((c.tc : Thread Cert.NsaCompressIdeal.nD Cert.NsaCompressIdeal.τ).loc Cert.NsaCompressIdeal.main_v11_1)),
      θ_run (Cert.NsaCompressIdeal.defs (F := Ideal)) (onTc (τ := Cert.NsaCompressIdeal.τ) (Cert.NsaCompressIdeal.main (F := Ideal))) ⟨m, fun _ => 0, g⟩ (fun r => ∀ c : Dev Cert.NsaCompressIdeal.nD,
          r.2.mem ((c.tc : Thread Cert.NsaCompressIdeal.nD Cert.NsaCompressIdeal.τ).loc Cert.NsaCompressIdeal.main_v11_0) = v0 c
          ∧ r.2.mem ((c.tc : Thread Cert.NsaCompressIdeal.nD Cert.NsaCompressIdeal.τ).loc Cert.NsaCompressIdeal.main_v11_1) = v1 c
          ∧ r.2.mem ((c.tc : Thread Cert.NsaCompressIdeal.nD Cert.NsaCompressIdeal.τ).loc Cert.NsaCompressIdeal.main_arg0) = m ((c.tc : Thread Cert.NsaCompressIdeal.nD Cert.NsaCompressIdeal.τ).loc Cert.NsaCompressIdeal.main_arg0)
          ∧ r.2.mem ((c.tc : Thread Cert.NsaCompressIdeal.nD Cert.NsaCompressIdeal.τ).loc Cert.NsaCompressIdeal.main_arg1) = m ((c.tc : Thread Cert.NsaCompressIdeal.nD Cert.NsaCompressIdeal.τ).loc Cert.NsaCompressIdeal.main_arg1)
          ∧ r.2.mem ((c.tc : Thread Cert.NsaCompressIdeal.nD Cert.NsaCompressIdeal.τ).loc Cert.NsaCompressIdeal.main_arg2) = m ((c.tc : Thread Cert.NsaCompressIdeal.nD Cert.NsaCompressIdeal.τ).loc Cert.NsaCompressIdeal.main_arg2)
          ∧ r.2.mem ((c.tc : Thread Cert.NsaCompressIdeal.nD Cert.NsaCompressIdeal.τ).loc Cert.NsaCompressIdeal.main_arg3) = m ((c.tc : Thread Cert.NsaCompressIdeal.nD Cert.NsaCompressIdeal.τ).loc Cert.NsaCompressIdeal.main_arg3))
      ∧ θ_run (Cert.RefNsaCompressIdeal.defs (F := Ideal)) (onTc (τ := Cert.RefNsaCompressIdeal.τ) (Cert.RefNsaCompressIdeal.main (F := Ideal))) ⟨m', fun _ => 0, g'⟩ (fun r => ∀ c : Dev Cert.RefNsaCompressIdeal.nD,
          r.2.mem ((c.tc : Thread Cert.RefNsaCompressIdeal.nD Cert.RefNsaCompressIdeal.τ).loc Cert.RefNsaCompressIdeal.main_v25) = v0 c
          ∧ r.2.mem ((c.tc : Thread Cert.RefNsaCompressIdeal.nD Cert.RefNsaCompressIdeal.τ).loc Cert.RefNsaCompressIdeal.main_v27) = v1 c
          ∧ r.2.mem ((c.tc : Thread Cert.RefNsaCompressIdeal.nD Cert.RefNsaCompressIdeal.τ).loc Cert.RefNsaCompressIdeal.main_arg0) = m' ((c.tc : Thread Cert.RefNsaCompressIdeal.nD Cert.RefNsaCompressIdeal.τ).loc Cert.RefNsaCompressIdeal.main_arg0)
          ∧ r.2.mem ((c.tc : Thread Cert.RefNsaCompressIdeal.nD Cert.RefNsaCompressIdeal.τ).loc Cert.RefNsaCompressIdeal.main_arg1) = m' ((c.tc : Thread Cert.RefNsaCompressIdeal.nD Cert.RefNsaCompressIdeal.τ).loc Cert.RefNsaCompressIdeal.main_arg1)
          ∧ r.2.mem ((c.tc : Thread Cert.RefNsaCompressIdeal.nD Cert.RefNsaCompressIdeal.τ).loc Cert.RefNsaCompressIdeal.main_arg2) = m' ((c.tc : Thread Cert.RefNsaCompressIdeal.nD Cert.RefNsaCompressIdeal.τ).loc Cert.RefNsaCompressIdeal.main_arg2)
          ∧ r.2.mem ((c.tc : Thread Cert.RefNsaCompressIdeal.nD Cert.RefNsaCompressIdeal.τ).loc Cert.RefNsaCompressIdeal.main_arg3) = m' ((c.tc : Thread Cert.RefNsaCompressIdeal.nD Cert.RefNsaCompressIdeal.τ).loc Cert.RefNsaCompressIdeal.main_arg3))

def Claim : Prop :=
  ∃ (hSgu : Cert.Sgu.Facts) (hSguIdeal : Cert.SguIdeal.Facts) (hRefSguIdeal : Cert.RefSguIdeal.Facts) (hFfn : Cert.Ffn.Facts) (hFfnIdeal : Cert.FfnIdeal.Facts) (hRefFfnIdeal : Cert.RefFfnIdeal.Facts) (hFfnRows : Cert.FfnRows.Facts) (hFfnRowsIdeal : Cert.FfnRowsIdeal.Facts) (hRefFfnRowsIdeal : Cert.RefFfnRowsIdeal.Facts) (hFfnFinal : Cert.FfnFinal.Facts) (hFfnFinalIdeal : Cert.FfnFinalIdeal.Facts) (hRefFfnFinalIdeal : Cert.RefFfnFinalIdeal.Facts) (hGmlpIn : Cert.GmlpIn.Facts) (hGmlpInIdeal : Cert.GmlpInIdeal.Facts) (hRefGmlpInIdeal : Cert.RefGmlpInIdeal.Facts) (hGlaIn : Cert.GlaIn.Facts) (hGlaInIdeal : Cert.GlaInIdeal.Facts) (hRefGlaInIdeal : Cert.RefGlaInIdeal.Facts) (hNsaProj : Cert.NsaProj.Facts) (hNsaProjIdeal : Cert.NsaProjIdeal.Facts) (hRefNsaProjIdeal : Cert.RefNsaProjIdeal.Facts) (hNsaCompress : Cert.NsaCompress.Facts) (hNsaCompressIdeal : Cert.NsaCompressIdeal.Facts) (hRefNsaCompressIdeal : Cert.RefNsaCompressIdeal.Facts),
    quiescent_Sgu (hSgu := hSgu)
    ∧ quiescent_SguIdeal (hSguIdeal := hSguIdeal)
    ∧ quiescent_RefSguIdeal (hRefSguIdeal := hRefSguIdeal)
    ∧ quiescent_Ffn (hFfn := hFfn)
    ∧ quiescent_FfnIdeal (hFfnIdeal := hFfnIdeal)
    ∧ quiescent_RefFfnIdeal (hRefFfnIdeal := hRefFfnIdeal)
    ∧ quiescent_FfnRows (hFfnRows := hFfnRows)
    ∧ quiescent_FfnRowsIdeal (hFfnRowsIdeal := hFfnRowsIdeal)
    ∧ quiescent_RefFfnRowsIdeal (hRefFfnRowsIdeal := hRefFfnRowsIdeal)
    ∧ quiescent_FfnFinal (hFfnFinal := hFfnFinal)
    ∧ quiescent_FfnFinalIdeal (hFfnFinalIdeal := hFfnFinalIdeal)
    ∧ quiescent_RefFfnFinalIdeal (hRefFfnFinalIdeal := hRefFfnFinalIdeal)
    ∧ quiescent_GmlpIn (hGmlpIn := hGmlpIn)
    ∧ quiescent_GmlpInIdeal (hGmlpInIdeal := hGmlpInIdeal)
    ∧ quiescent_RefGmlpInIdeal (hRefGmlpInIdeal := hRefGmlpInIdeal)
    ∧ quiescent_GlaIn (hGlaIn := hGlaIn)
    ∧ quiescent_GlaInIdeal (hGlaInIdeal := hGlaInIdeal)
    ∧ quiescent_RefGlaInIdeal (hRefGlaInIdeal := hRefGlaInIdeal)
    ∧ quiescent_NsaProj (hNsaProj := hNsaProj)
    ∧ quiescent_NsaProjIdeal (hNsaProjIdeal := hNsaProjIdeal)
    ∧ quiescent_RefNsaProjIdeal (hRefNsaProjIdeal := hRefNsaProjIdeal)
    ∧ quiescent_NsaCompress (hNsaCompress := hNsaCompress)
    ∧ quiescent_NsaCompressIdeal (hNsaCompressIdeal := hNsaCompressIdeal)
    ∧ quiescent_RefNsaCompressIdeal (hRefNsaCompressIdeal := hRefNsaCompressIdeal)
    ∧ preserves_Sgu_SguIdeal
    ∧ algebraic_SguIdeal_RefSguIdeal (hSguIdeal := hSguIdeal) (hRefSguIdeal := hRefSguIdeal)
    ∧ preserves_Ffn_FfnIdeal
    ∧ algebraic_FfnIdeal_RefFfnIdeal (hFfnIdeal := hFfnIdeal) (hRefFfnIdeal := hRefFfnIdeal)
    ∧ preserves_FfnRows_FfnRowsIdeal
    ∧ algebraic_FfnRowsIdeal_RefFfnRowsIdeal (hFfnRowsIdeal := hFfnRowsIdeal) (hRefFfnRowsIdeal := hRefFfnRowsIdeal)
    ∧ preserves_FfnFinal_FfnFinalIdeal
    ∧ algebraic_FfnFinalIdeal_RefFfnFinalIdeal (hFfnFinalIdeal := hFfnFinalIdeal) (hRefFfnFinalIdeal := hRefFfnFinalIdeal)
    ∧ preserves_GmlpIn_GmlpInIdeal
    ∧ algebraic_GmlpInIdeal_RefGmlpInIdeal (hGmlpInIdeal := hGmlpInIdeal) (hRefGmlpInIdeal := hRefGmlpInIdeal)
    ∧ preserves_GlaIn_GlaInIdeal
    ∧ algebraic_GlaInIdeal_RefGlaInIdeal (hGlaInIdeal := hGlaInIdeal) (hRefGlaInIdeal := hRefGlaInIdeal)
    ∧ preserves_NsaProj_NsaProjIdeal
    ∧ algebraic_NsaProjIdeal_RefNsaProjIdeal (hNsaProjIdeal := hNsaProjIdeal) (hRefNsaProjIdeal := hRefNsaProjIdeal)
    ∧ preserves_NsaCompress_NsaCompressIdeal
    ∧ algebraic_NsaCompressIdeal_RefNsaCompressIdeal (hNsaCompressIdeal := hNsaCompressIdeal) (hRefNsaCompressIdeal := hRefNsaCompressIdeal)
-- ==== Sgu.lean ====
abbrev S16384x6144 : Shape := ⟨2, ![16384, 6144]⟩
abbrev S3072 : Shape := ⟨1, ![3072]⟩
abbrev S8x128x128 : Shape := ⟨3, ![8, 128, 128]⟩
abbrev S8x128 : Shape := ⟨2, ![8, 128]⟩
abbrev S3072x1024 : Shape := ⟨2, ![3072, 1024]⟩
abbrev S16384x1024 : Shape := ⟨2, ![16384, 1024]⟩
abbrev S128x8 : Shape := ⟨2, ![128, 8]⟩
abbrev S128x8x384 : Shape := ⟨3, ![128, 8, 384]⟩
abbrev S128x3072 : Shape := ⟨2, ![128, 3072]⟩
abbrev S1x3072 : Shape := ⟨2, ![1, 3072]⟩
abbrev S512x3072 : Shape := ⟨2, ![512, 3072]⟩
abbrev S512x1024 : Shape := ⟨2, ![512, 1024]⟩
abbrev S128x128 : Shape := ⟨2, ![128, 128]⟩
abbrev S128 : Shape := ⟨1, ![128]⟩
abbrev S128x1 : Shape := ⟨2, ![128, 1]⟩
abbrev S1x128x128 : Shape := ⟨3, ![1, 128, 128]⟩
abbrev S128x384 : Shape := ⟨2, ![128, 384]⟩

abbrev nBuf : Space → Nat
  | .hbm => 14
  | .vmem => 14
  | .smem => 0
  | _ => 0

abbrev bufTy : (tb : Table) → Fin (tcTables nBuf tb) → BufTy
  | .hbm, ⟨0, _⟩ => ⟨S16384x6144, .bf16⟩
  | .hbm, ⟨1, _⟩ => ⟨S3072, .f32⟩
  | .hbm, ⟨2, _⟩ => ⟨S3072, .f32⟩
  | .hbm, ⟨3, _⟩ => ⟨S8x128x128, .f32⟩
  | .hbm, ⟨4, _⟩ => ⟨S8x128, .f32⟩
  | .hbm, ⟨5, _⟩ => ⟨S3072x1024, .f32⟩
  | .hbm, ⟨6, _⟩ => ⟨S16384x1024, .f32⟩
  | .hbm, ⟨7, _⟩ => ⟨S128x8, .f32⟩
  | .hbm, ⟨8, _⟩ => ⟨S128x8x384, .f32⟩
  | .hbm, ⟨9, _⟩ => ⟨S128x3072, .f32⟩
  | .hbm, ⟨10, _⟩ => ⟨S1x3072, .f32⟩
  | .hbm, ⟨11, _⟩ => ⟨S1x3072, .f32⟩
  | .hbm, ⟨12, _⟩ => ⟨S3072x1024, .bf16⟩
  | .hbm, ⟨13, _⟩ => ⟨S16384x1024, .f32⟩
  | .local _ .vmem, ⟨0, _⟩ => ⟨S512x3072, .bf16⟩
  | .local _ .vmem, ⟨1, _⟩ => ⟨S512x3072, .bf16⟩
  | .local _ .vmem, ⟨2, _⟩ => ⟨S512x3072, .bf16⟩
  | .local _ .vmem, ⟨3, _⟩ => ⟨S512x3072, .bf16⟩
  | .local _ .vmem, ⟨4, _⟩ => ⟨S1x3072, .f32⟩
  | .local _ .vmem, ⟨5, _⟩ => ⟨S1x3072, .f32⟩
  | .local _ .vmem, ⟨6, _⟩ => ⟨S8x128x128, .f32⟩
  | .local _ .vmem, ⟨7, _⟩ => ⟨S128x3072, .f32⟩
  | .local _ .vmem, ⟨8, _⟩ => ⟨S3072x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x3072, .bf16⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3072x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefSguIdeal.lean ====
abbrev S16384x6144 : Shape := ⟨2, ![16384, 6144]⟩
abbrev S3072 : Shape := ⟨1, ![3072]⟩
abbrev S8x128x128 : Shape := ⟨3, ![8, 128, 128]⟩
abbrev S8x128 : Shape := ⟨2, ![8, 128]⟩
abbrev S3072x1024 : Shape := ⟨2, ![3072, 1024]⟩
abbrev S16384x1024 : Shape := ⟨2, ![16384, 1024]⟩
abbrev S2x8192x6144 : Shape := ⟨3, ![2, 8192, 6144]⟩
abbrev S2x8192x3072 : Shape := ⟨3, ![2, 8192, 3072]⟩
abbrev S_ : Shape := ⟨0, ![]⟩
abbrev S2x8192 : Shape := ⟨2, ![2, 8192]⟩
abbrev S2x8192x1 : Shape := ⟨3, ![2, 8192, 1]⟩
abbrev S1x1x3072 : Shape := ⟨3, ![1, 1, 3072]⟩
abbrev S2x64x128x8x384 : Shape := ⟨5, ![2, 64, 128, 8, 384]⟩
abbrev S128x128 : Shape := ⟨2, ![128, 128]⟩
abbrev S1x128x128 : Shape := ⟨3, ![1, 128, 128]⟩
abbrev S8x2x64x384x128 : Shape := ⟨5, ![8, 2, 64, 384, 128]⟩
abbrev S128x8 : Shape := ⟨2, ![128, 8]⟩
abbrev S1x1x128x8x1 : Shape := ⟨5, ![1, 1, 128, 8, 1]⟩
abbrev S2x8192x1024 : Shape := ⟨3, ![2, 8192, 1024]⟩

abbrev nBuf : Space → Nat
  | .hbm => 66
  | .vmem => 0
  | .smem => 0
  | _ => 0

abbrev bufTy : (tb : Table) → Fin (tcTables nBuf tb) → BufTy
  | .hbm, ⟨0, _⟩ => ⟨S16384x6144, .bf16⟩
  | .hbm, ⟨1, _⟩ => ⟨S3072, .f32⟩
  | .hbm, ⟨2, _⟩ => ⟨S3072, .f32⟩
  | .hbm, ⟨3, _⟩ => ⟨S8x128x128, .f32⟩
  | .hbm, ⟨4, _⟩ => ⟨S8x128, .f32⟩
  | .hbm, ⟨5, _⟩ => ⟨S3072x1024, .f32⟩
  | .hbm, ⟨6, _⟩ => ⟨S16384x1024, .f32⟩
  | .hbm, ⟨7, _⟩ => ⟨S16384x6144, .f32⟩
  | .hbm, ⟨8, _⟩ => ⟨S2x8192x6144, .f32⟩
  | .hbm, ⟨9, _⟩ => ⟨S2x8192x3072, .f32⟩
  | .hbm, ⟨10, _⟩ => ⟨S2x8192x3072, .f32⟩
  | .hbm, ⟨11, _⟩ => ⟨S_, .f32⟩
  | .hbm, ⟨12, _⟩ => ⟨S2x8192, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x3072, .f32⟩
  | .hbm, ⟨18, _⟩ => ⟨S2x8192x3072, .f32⟩
  | .hbm, ⟨19, _⟩ => ⟨S2x8192x3072, .f32⟩
  | .hbm, ⟨20, _⟩ => ⟨S_, .f32⟩
  | .hbm, ⟨21, _⟩ => ⟨S2x8192, .f32⟩
  | .hbm, ⟨22, _⟩ => ⟨S2x8192x1, .f32⟩
  | .hbm, ⟨23, _⟩ => ⟨S_, .f32⟩
  | .hbm, ⟨24, _⟩ => ⟨S2x8192x1, .f32⟩
  | .hbm, ⟨25, _⟩ => ⟨S2x8192x1, .f32⟩
  | .hbm, ⟨26, _⟩ => ⟨S2x8192x3072, .f32⟩
  | .hbm, ⟨27, _⟩ => ⟨S2x8192x3072, .f32⟩
  | .hbm, ⟨28, _⟩ => ⟨S_, .f32⟩
  | .hbm, ⟨29, _⟩ => ⟨S2x8192x1, .f32⟩
  | .hbm, ⟨30, _⟩ => ⟨S2x8192x1, .f32⟩
  | .hbm, ⟨31, _⟩ => ⟨S2x8192x1, .f32⟩
  | .hbm, ⟨32, _⟩ => ⟨S2x8192x3072, .f32⟩
  | .hbm, ⟨33, _⟩ => ⟨S2x8192x3072, .f32⟩
  | .hbm, ⟨34, _⟩ => ⟨S1x1x3072, .f32⟩
  | .hbm, ⟨35, _⟩ => ⟨S2x8192x3072, .f32⟩
  | .hbm, ⟨36, _⟩ => ⟨S2x8192x3072, .f32⟩
  | .hbm, ⟨37, _⟩ => ⟨S1x1x3072, .f32⟩
  | .hbm, ⟨38, _⟩ => ⟨S2x8192x3072, .f32⟩
  | .hbm, ⟨39, _⟩ => ⟨S2x8192x3072, .f32⟩
  | .hbm, ⟨40, _⟩ => ⟨S2x64x128x8x384, .f32⟩
  | .hbm, ⟨41, _⟩ => ⟨S_, .f32⟩
  | .hbm, ⟨42, _⟩ => ⟨S128x128, .f32⟩
  | .hbm, ⟨43, _⟩ => ⟨S128x128, .i32⟩
  | .hbm, ⟨44, _⟩ => ⟨S_, .i32⟩
  | .hbm, ⟨45, _⟩ => ⟨S128x128, .i32⟩
  | .hbm, ⟨46, _⟩ => ⟨S128x128, .i32⟩
  | .hbm, ⟨47, _⟩ => ⟨S128x128, .i32⟩
  | .hbm, ⟨48, _⟩ => ⟨S128x128, .i1⟩
  | .hbm, ⟨49, _⟩ => ⟨S_, .f32⟩
  | .hbm, ⟨50, _⟩ => ⟨S128x128, .f32⟩
  | .hbm, ⟨51, _⟩ => ⟨S128x128, .f32⟩
  | .hbm, ⟨52, _⟩ => ⟨S1x128x128, .f32⟩
  | .hbm, ⟨53, _⟩ => ⟨S8x128x128, .f32⟩
  | .hbm, ⟨54, _⟩ => ⟨S8x128x128, .f32⟩
  | .hbm, ⟨55, _⟩ => ⟨S8x2x64x384x128, .f32⟩
  | .hbm, ⟨56, _⟩ => ⟨S2x64x128x8x384, .f32⟩
  | .hbm, ⟨57, _⟩ => ⟨S128x8, .f32⟩
  | .hbm, ⟨58, _⟩ => ⟨S1x1x128x8x1, .f32⟩
  | .hbm, ⟨59, _⟩ => ⟨S2x64x128x8x384, .f32⟩
  | .hbm, ⟨60, _⟩ => ⟨S2x64x128x8x384, .f32⟩
  | .hbm, ⟨61, _⟩ => ⟨S2x8192x3072, .f32⟩
  | .hbm, ⟨62, _⟩ => ⟨S2x8192x3072, .f32⟩
  | .hbm, ⟨63, _⟩ => ⟨S2x8192x1024, .f32⟩
  | .hbm, ⟨64, _⟩ => ⟨S16384x1024, .f32⟩
  | .hbm, ⟨65, _⟩ => ⟨S16384x1024, .f32⟩
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_call0_v0 : Ref sig .tc := ⟨.hbm, 43, rfl⟩
abbrev main_call0_c : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_cst : Ref sig .tc := ⟨.hbm, 49, rfl⟩
abbrev main_call0_v5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]
-- ==== Ffn.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 10
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefFfnIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S_, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x1024, .f32⟩
  | .hbm, ⟨34, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== FfnRows.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 13
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .bf16⟩
  | .hbm, ⟨6, _⟩ => ⟨S1024x1024, .f32⟩
  | .hbm, ⟨7, _⟩ => ⟨S1x1024, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S1024x1024, .bf16⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefFfnRowsIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 40
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .bf16⟩
  | .hbm, ⟨6, _⟩ => ⟨S1024x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S16384x1024, .f32⟩
  | .hbm, ⟨39, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩

abbrev nD : Nat := 1
abbrev τ : Topo := Topo.v7x

variable {F : FTy → Type} [FloatOps F]
-- ==== FfnFinal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S2x1024x8192 : Shape := ⟨3, ![2, 1024, 8192]⟩
abbrev S1024x1024 : Shape := ⟨2, ![1024, 1024]⟩
abbrev S1x1024 : Shape := ⟨2, ![1, 1024]⟩
abbrev S512x1024 : Shape := ⟨2, ![512, 1024]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩
abbrev S512x2816 : Shape := ⟨2, ![512, 2816]⟩

abbrev nBuf : Space → Nat
  | .hbm => 15
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S2x1024x8192, .bf16⟩
  | .hbm, ⟨7, _⟩ => ⟨S1024x1024, .f32⟩
  | .hbm, ⟨8, _⟩ => ⟨S1x1024, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S1x1024, .f32⟩
  | .hbm, ⟨13, _⟩ => ⟨S1024x1024, .bf16⟩
  | .hbm, ⟨14, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1x1024x512, .bf16⟩
  | .local _ .vmem, ⟨8, _⟩ => ⟨S1x1024x512, .bf16⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefFfnFinalIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S2x1024x8192 : Shape := ⟨3, ![2, 1024, 8192]⟩
abbrev S1024x1024 : Shape := ⟨2, ![1024, 1024]⟩
abbrev S2x8192x1024 : Shape := ⟨3, ![2, 8192, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 59
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S2x1024x8192, .bf16⟩
  | .hbm, ⟨7, _⟩ => ⟨S1024x1024, .f32⟩
  | .hbm, ⟨8, _⟩ => ⟨S2x1024x8192, .f32⟩
  | .hbm, ⟨9, _⟩ => ⟨S2x8192x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S_, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x1, .f32⟩
  | .hbm, ⟨54, _⟩ => ⟨S16384x1024, .f32⟩
  | .hbm, ⟨55, _⟩ => ⟨S16384x1024, .f32⟩
  | .hbm, ⟨56, _⟩ => ⟨S1x1024, .f32⟩
  | .hbm, ⟨57, _⟩ => ⟨S16384x1024, .f32⟩
  | .hbm, ⟨58, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_v27 : Ref sig .tc := ⟨.hbm, 48, rfl⟩
abbrev main_v28 : Ref sig .tc := ⟨.hbm, 49, rfl⟩
abbrev main_cst_4 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩

abbrev nD : Nat := 1
abbrev τ : Topo := Topo.v7x

variable {F : FTy → Type} [FloatOps F]
-- ==== GmlpIn.lean ====
abbrev S16384x1024 : Shape := ⟨2, ![16384, 1024]⟩
abbrev S1024 : Shape := ⟨1, ![1024]⟩
abbrev S1024x6144 : Shape := ⟨2, ![1024, 6144]⟩
abbrev S6144 : Shape := ⟨1, ![6144]⟩
abbrev S1x1024 : Shape := ⟨2, ![1, 1024]⟩
abbrev S1x6144 : Shape := ⟨2, ![1, 6144]⟩
abbrev S16384x6144 : Shape := ⟨2, ![16384, 6144]⟩
abbrev S512x1024 : Shape := ⟨2, ![512, 1024]⟩
abbrev S512x6144 : Shape := ⟨2, ![512, 6144]⟩
abbrev S512 : Shape := ⟨1, ![512]⟩
abbrev S512x1 : Shape := ⟨2, ![512, 1]⟩

abbrev nBuf : Space → Nat
  | .hbm => 8
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S1x1024, .f32⟩
  | .hbm, ⟨5, _⟩ => ⟨S1024x6144, .bf16⟩
  | .hbm, ⟨6, _⟩ => ⟨S1x6144, .f32⟩
  | .hbm, ⟨7, _⟩ => ⟨S16384x6144, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x6144, .bf16⟩
  | .local _ .vmem, ⟨4, _⟩ => ⟨S1x6144, .f32⟩
  | .local _ .vmem, ⟨5, _⟩ => ⟨S512x6144, .bf16⟩
  | .local _ .vmem, ⟨6, _⟩ => ⟨S512x6144, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x6144 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefGmlpInIdeal.lean ====
abbrev S16384x1024 : Shape := ⟨2, ![16384, 1024]⟩
abbrev S1024 : Shape := ⟨1, ![1024]⟩
abbrev S1024x6144 : Shape := ⟨2, ![1024, 6144]⟩
abbrev S6144 : Shape := ⟨1, ![6144]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x6144 : Shape := ⟨2, ![16384, 6144]⟩
abbrev S1x6144 : Shape := ⟨2, ![1, 6144]⟩

abbrev nBuf : Space → Nat
  | .hbm => 42
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x6144, .f32⟩
  | .hbm, ⟨21, _⟩ => ⟨S1x6144, .f32⟩
  | .hbm, ⟨22, _⟩ => ⟨S16384x6144, .f32⟩
  | .hbm, ⟨23, _⟩ => ⟨S16384x6144, .f32⟩
  | .hbm, ⟨24, _⟩ => ⟨S16384x6144, .f32⟩
  | .hbm, ⟨25, _⟩ => ⟨S16384x6144, .f32⟩
  | .hbm, ⟨26, _⟩ => ⟨S_, .f32⟩
  | .hbm, ⟨27, _⟩ => ⟨S16384x6144, .f32⟩
  | .hbm, ⟨28, _⟩ => ⟨S16384x6144, .f32⟩
  | .hbm, ⟨29, _⟩ => ⟨S16384x6144, .f32⟩
  | .hbm, ⟨30, _⟩ => ⟨S_, .f32⟩
  | .hbm, ⟨31, _⟩ => ⟨S16384x6144, .f32⟩
  | .hbm, ⟨32, _⟩ => ⟨S16384x6144, .f32⟩
  | .hbm, ⟨33, _⟩ => ⟨S16384x6144, .f32⟩
  | .hbm, ⟨34, _⟩ => ⟨S_, .f32⟩
  | .hbm, ⟨35, _⟩ => ⟨S16384x6144, .f32⟩
  | .hbm, ⟨36, _⟩ => ⟨S16384x6144, .f32⟩
  | .hbm, ⟨37, _⟩ => ⟨S_, .f32⟩
  | .hbm, ⟨38, _⟩ => ⟨S16384x6144, .f32⟩
  | .hbm, ⟨39, _⟩ => ⟨S16384x6144, .f32⟩
  | .hbm, ⟨40, _⟩ => ⟨S16384x6144, .f32⟩
  | .hbm, ⟨41, _⟩ => ⟨S16384x6144, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== GlaIn.lean ====
abbrev S16384x1024 : Shape := ⟨2, ![16384, 1024]⟩
abbrev S1024 : Shape := ⟨1, ![1024]⟩
abbrev S1024x3072 : Shape := ⟨2, ![1024, 3072]⟩
abbrev S1x1024 : Shape := ⟨2, ![1, 1024]⟩
abbrev S16384x3072 : Shape := ⟨2, ![16384, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S1x1024, .f32⟩
  | .hbm, ⟨4, _⟩ => ⟨S1024x3072, .bf16⟩
  | .hbm, ⟨5, _⟩ => ⟨S16384x3072, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x3072, .f32⟩
  | .local _ .vmem, ⟨5, _⟩ => ⟨S512x3072, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefGlaInIdeal.lean ====
abbrev S16384x1024 : Shape := ⟨2, ![16384, 1024]⟩
abbrev S1024 : Shape := ⟨1, ![1024]⟩
abbrev S1024x3072 : Shape := ⟨2, ![1024, 3072]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3072 : Shape := ⟨2, ![16384, 3072]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x3072, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== NsaProj.lean ====
abbrev S16384x1024 : Shape := ⟨2, ![16384, 1024]⟩
abbrev S1024 : Shape := ⟨1, ![1024]⟩
abbrev S1024x2608 : Shape := ⟨2, ![1024, 2608]⟩
abbrev S1024x1024 : Shape := ⟨2, ![1024, 1024]⟩
abbrev S_ : Shape := ⟨0, ![]⟩
abbrev S1024x256 : Shape := ⟨2, ![1024, 256]⟩
abbrev S1024x1536 : Shape := ⟨2, ![1024, 1536]⟩
abbrev S1024x512 : Shape := ⟨2, ![1024, 512]⟩
abbrev S512x1024 : Shape := ⟨2, ![512, 1024]⟩
abbrev S1024x48 : Shape := ⟨2, ![1024, 48]⟩
abbrev S48x1024 : Shape := ⟨2, ![48, 1024]⟩
abbrev S1x1024 : Shape := ⟨2, ![1, 1024]⟩
abbrev S4x16384x128 : Shape := ⟨3, ![4, 16384, 128]⟩
abbrev S2x256x8192 : Shape := ⟨3, ![2, 256, 8192]⟩
abbrev S8x16384x64 : Shape := ⟨3, ![8, 16384, 64]⟩
abbrev S2x48x8192 : Shape := ⟨3, ![2, 48, 8192]⟩
abbrev S4x512x128 : Shape := ⟨3, ![4, 512, 128]⟩
abbrev S1x256x512 : Shape := ⟨3, ![1, 256, 512]⟩
abbrev S8x512x64 : Shape := ⟨3, ![8, 512, 64]⟩
abbrev S1x48x512 : Shape := ⟨3, ![1, 48, 512]⟩
abbrev S512 : Shape := ⟨1, ![512]⟩
abbrev S512x1 : Shape := ⟨2, ![512, 1]⟩
abbrev S512x1536 : Shape := ⟨2, ![512, 1536]⟩
abbrev S512x64 : Shape := ⟨2, ![512, 64]⟩
abbrev S1x512x64 : Shape := ⟨3, ![1, 512, 64]⟩
abbrev S512x512 : Shape := ⟨2, ![512, 512]⟩
abbrev S256x512 : Shape := ⟨2, ![256, 512]⟩
abbrev S48x512 : Shape := ⟨2, ![48, 512]⟩

abbrev nBuf : Space → Nat
  | .hbm => 29
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2608, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S1024x256, .f32⟩
  | .hbm, ⟨8, _⟩ => ⟨S1024x256, .f32⟩
  | .hbm, ⟨9, _⟩ => ⟨S1024x1536, .f32⟩
  | .hbm, ⟨10, _⟩ => ⟨S1024x1536, .bf16⟩
  | .hbm, ⟨11, _⟩ => ⟨S1024x256, .f32⟩
  | .hbm, ⟨12, _⟩ => ⟨S1024x256, .f32⟩
  | .hbm, ⟨13, _⟩ => ⟨S1024x512, .f32⟩
  | .hbm, ⟨14, _⟩ => ⟨S512x1024, .f32⟩
  | .hbm, ⟨15, _⟩ => ⟨S512x1024, .bf16⟩
  | .hbm, ⟨16, _⟩ => ⟨S1024x512, .f32⟩
  | .hbm, ⟨17, _⟩ => ⟨S1024x512, .bf16⟩
  | .hbm, ⟨18, _⟩ => ⟨S1024x48, .f32⟩
  | .hbm, ⟨19, _⟩ => ⟨S48x1024, .f32⟩
  | .hbm, ⟨20, _⟩ => ⟨S48x1024, .bf16⟩
  | .hbm, ⟨21, _⟩ => ⟨S1x1024, .f32⟩
  | .hbm, ⟨22, _⟩ => ⟨S16384x1024, .bf16⟩
  | .hbm, ⟨23, _⟩ => ⟨S4x16384x128, .bf16⟩
  | .hbm, ⟨24, _⟩ => ⟨S4x16384x128, .bf16⟩
  | .hbm, ⟨25, _⟩ => ⟨S2x256x8192, .bf16⟩
  | .hbm, ⟨26, _⟩ => ⟨S2x256x8192, .bf16⟩
  | .hbm, ⟨27, _⟩ => ⟨S8x16384x64, .f32⟩
  | .hbm, ⟨28, _⟩ => ⟨S2x48x8192, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S512x1024, .bf16⟩
  | .local _ .vmem, ⟨5, _⟩ => ⟨S1024x512, .bf16⟩
  | .local _ .vmem, ⟨6, _⟩ => ⟨S48x1024, .bf16⟩
  | .local _ .vmem, ⟨7, _⟩ => ⟨S512x1024, .bf16⟩
  | .local _ .vmem, ⟨8, _⟩ => ⟨S512x1024, .bf16⟩
  | .local _ .vmem, ⟨9, _⟩ => ⟨S4x512x128, .bf16⟩
  | .local _ .vmem, ⟨10, _⟩ => ⟨S4x512x128, .bf16⟩
  | .local _ .vmem, ⟨11, _⟩ => ⟨S4x512x128, .bf16⟩
  | .local _ .vmem, ⟨12, _⟩ => ⟨S4x512x128, .bf16⟩
  | .local _ .vmem, ⟨13, _⟩ => ⟨S1x256x512, .bf16⟩
  | .local _ .vmem, ⟨14, _⟩ => ⟨S1x256x512, .bf16⟩
  | .local _ .vmem, ⟨15, _⟩ => ⟨S1x256x512, .bf16⟩
  | .local _ .vmem, ⟨16, _⟩ => ⟨S1x256x512, .bf16⟩
  | .local _ .vmem, ⟨17, _⟩ => ⟨S8x512x64, .f32⟩
  | .local _ .vmem, ⟨18, _⟩ => ⟨S8x512x64, .f32⟩
  | .local _ .vmem, ⟨19, _⟩ => ⟨S1x48x512, .f32⟩
  | .local _ .vmem, ⟨20, _⟩ => ⟨S1x48x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18_0 : Ref sig .tc := ⟨.hbm, 22, rfl⟩
abbrev main_v18_1 : Ref sig .tc := ⟨.hbm, 23, rfl⟩
abbrev main_v18_2 : Ref sig .tc := ⟨.hbm, 24, rfl⟩
abbrev main_v18_3 : Ref sig .tc := ⟨.hbm, 25, rfl⟩
abbrev main_v18_4 : Ref sig .tc := ⟨.hbm, 26, rfl⟩
abbrev main_v18_5 : Ref sig .tc := ⟨.hbm, 27, rfl⟩
abbrev main_v18_6 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S48x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x512x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x48x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== RefNsaProjIdeal.lean ====
abbrev S16384x1024 : Shape := ⟨2, ![16384, 1024]⟩
abbrev S1024 : Shape := ⟨1, ![1024]⟩
abbrev S1024x2608 : Shape := ⟨2, ![1024, 2608]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2608 : Shape := ⟨2, ![16384, 2608]⟩
abbrev S16384x1536 : Shape := ⟨2, ![16384, 1536]⟩
abbrev S16384x6x4x64 : Shape := ⟨4, ![16384, 6, 4, 64]⟩
abbrev S6x4x16384x64 : Shape := ⟨4, ![6, 4, 16384, 64]⟩
abbrev S16384x48 : Shape := ⟨2, ![16384, 48]⟩
abbrev S2x8192x48 : Shape := ⟨3, ![2, 8192, 48]⟩
abbrev S2x48x8192 : Shape := ⟨3, ![2, 48, 8192]⟩
abbrev S16384x64 : Shape := ⟨2, ![16384, 64]⟩
abbrev S64 : Shape := ⟨1, ![64]⟩
abbrev S1x64 : Shape := ⟨2, ![1, 64]⟩
abbrev S1x16384x64 : Shape := ⟨3, ![1, 16384, 64]⟩
abbrev S4x16384x64 : Shape := ⟨3, ![4, 16384, 64]⟩
abbrev S1x4x16384x64 : Shape := ⟨4, ![1, 4, 16384, 64]⟩
abbrev S4x16384x128 : Shape := ⟨3, ![4, 16384, 128]⟩
abbrev S4x2x8192x64 : Shape := ⟨4, ![4, 2, 8192, 64]⟩
abbrev S2x4x64x8192 : Shape := ⟨4, ![2, 4, 64, 8192]⟩
abbrev S2x256x8192 : Shape := ⟨3, ![2, 256, 8192]⟩
abbrev S2x4x16384x64 : Shape := ⟨4, ![2, 4, 16384, 64]⟩
abbrev S8x16384x64 : Shape := ⟨3, ![8, 16384, 64]⟩

abbrev nBuf : Space → Nat
  | .hbm => 99
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2608, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x2608, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S16384x1536, .f32⟩
  | .hbm, ⟨25, _⟩ => ⟨S16384x6x4x64, .f32⟩
  | .hbm, ⟨26, _⟩ => ⟨S6x4x16384x64, .f32⟩
  | .hbm, ⟨27, _⟩ => ⟨S16384x48, .f32⟩
  | .hbm, ⟨28, _⟩ => ⟨S16384x48, .f32⟩
  | .hbm, ⟨29, _⟩ => ⟨S16384x48, .f32⟩
  | .hbm, ⟨30, _⟩ => ⟨S_, .f32⟩
  | .hbm, ⟨31, _⟩ => ⟨S16384x48, .f32⟩
  | .hbm, ⟨32, _⟩ => ⟨S16384x48, .f32⟩
  | .hbm, ⟨33, _⟩ => ⟨S_, .f32⟩
  | .hbm, ⟨34, _⟩ => ⟨S16384x48, .f32⟩
  | .hbm, ⟨35, _⟩ => ⟨S16384x48, .f32⟩
  | .hbm, ⟨36, _⟩ => ⟨S2x8192x48, .f32⟩
  | .hbm, ⟨37, _⟩ => ⟨S2x48x8192, .f32⟩
  | .hbm, ⟨38, _⟩ => ⟨S16384, .i32⟩
  | .hbm, ⟨39, _⟩ => ⟨S16384x1, .i32⟩
  | .hbm, ⟨40, _⟩ => ⟨S16384x64, .i32⟩
  | .hbm, ⟨41, _⟩ => ⟨S64, .i32⟩
  | .hbm, ⟨42, _⟩ => ⟨S1x64, .i32⟩
  | .hbm, ⟨43, _⟩ => ⟨S_, .i32⟩
  | .hbm, ⟨44, _⟩ => ⟨S1x64, .i32⟩
  | .hbm, ⟨45, _⟩ => ⟨S1x64, .i1⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S16384x64, .i32⟩
  | .hbm, ⟨53, _⟩ => ⟨S16384x64, .i32⟩
  | .hbm, ⟨54, _⟩ => ⟨S_, .i32⟩
  | .hbm, ⟨55, _⟩ => ⟨S16384x64, .i32⟩
  | .hbm, ⟨56, _⟩ => ⟨S16384x64, .i1⟩
  | .hbm, ⟨57, _⟩ => ⟨S_, .i32⟩
  | .hbm, ⟨58, _⟩ => ⟨S16384x64, .i32⟩
  | .hbm, ⟨59, _⟩ => ⟨S16384x64, .i1⟩
  | .hbm, ⟨60, _⟩ => ⟨S_, .i32⟩
  | .hbm, ⟨61, _⟩ => ⟨S_, .i1⟩
  | .hbm, ⟨62, _⟩ => ⟨S16384x64, .i1⟩
  | .hbm, ⟨63, _⟩ => ⟨S16384x64, .i1⟩
  | .hbm, ⟨64, _⟩ => ⟨S16384x64, .i1⟩
  | .hbm, ⟨65, _⟩ => ⟨S16384x64, .i32⟩
  | .hbm, ⟨66, _⟩ => ⟨S16384x64, .i32⟩
  | .hbm, ⟨67, _⟩ => ⟨S16384x64, .i32⟩
  | .hbm, ⟨68, _⟩ => ⟨S16384x64, .f32⟩
  | .hbm, ⟨69, _⟩ => ⟨S_, .f32⟩
  | .hbm, ⟨70, _⟩ => ⟨S_, .f32⟩
  | .hbm, ⟨71, _⟩ => ⟨S16384x64, .i1⟩
  | .hbm, ⟨72, _⟩ => ⟨S16384x64, .f32⟩
  | .hbm, ⟨73, _⟩ => ⟨S16384x64, .f32⟩
  | .hbm, ⟨74, _⟩ => ⟨S1x16384x64, .f32⟩
  | .hbm, ⟨75, _⟩ => ⟨S4x16384x64, .f32⟩
  | .hbm, ⟨76, _⟩ => ⟨S16384x1024, .bf16⟩
  | .hbm, ⟨77, _⟩ => ⟨S1x4x16384x64, .f32⟩
  | .hbm, ⟨78, _⟩ => ⟨S4x16384x64, .f32⟩
  | .hbm, ⟨79, _⟩ => ⟨S4x16384x128, .f32⟩
  | .hbm, ⟨80, _⟩ => ⟨S4x16384x128, .bf16⟩
  | .hbm, ⟨81, _⟩ => ⟨S1x4x16384x64, .f32⟩
  | .hbm, ⟨82, _⟩ => ⟨S4x16384x64, .f32⟩
  | .hbm, ⟨83, _⟩ => ⟨S4x16384x128, .f32⟩
  | .hbm, ⟨84, _⟩ => ⟨S4x16384x128, .bf16⟩
  | .hbm, ⟨85, _⟩ => ⟨S1x4x16384x64, .f32⟩
  | .hbm, ⟨86, _⟩ => ⟨S4x16384x64, .f32⟩
  | .hbm, ⟨87, _⟩ => ⟨S4x2x8192x64, .f32⟩
  | .hbm, ⟨88, _⟩ => ⟨S2x4x64x8192, .f32⟩
  | .hbm, ⟨89, _⟩ => ⟨S2x256x8192, .f32⟩
  | .hbm, ⟨90, _⟩ => ⟨S2x256x8192, .bf16⟩
  | .hbm, ⟨91, _⟩ => ⟨S1x4x16384x64, .f32⟩
  | .hbm, ⟨92, _⟩ => ⟨S4x16384x64, .f32⟩
  | .hbm, ⟨93, _⟩ => ⟨S4x2x8192x64, .f32⟩
  | .hbm, ⟨94, _⟩ => ⟨S2x4x64x8192, .f32⟩
  | .hbm, ⟨95, _⟩ => ⟨S2x256x8192, .f32⟩
  | .hbm, ⟨96, _⟩ => ⟨S2x256x8192, .bf16⟩
  | .hbm, ⟨97, _⟩ => ⟨S2x4x16384x64, .f32⟩
  | .hbm, ⟨98, _⟩ => ⟨S8x16384x64, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c : Ref sig .tc := ⟨.hbm, 43, rfl⟩
abbrev main_v34 : Ref sig .tc := ⟨.hbm, 44, rfl⟩
abbrev main_v35 : Ref sig .tc := ⟨.hbm, 45, rfl⟩
abbrev main_c_5 : Ref sig .tc := ⟨.hbm, 46, rfl⟩
abbrev main_call0_v0 : Ref sig .tc := ⟨.hbm, 47, rfl⟩
abbrev main_call0_c : Ref sig .tc := ⟨.hbm, 48, rfl⟩
abbrev main_call0_v1 : Ref sig .tc := ⟨.hbm, 49, rfl⟩
abbrev main_call0_c_0 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_c_1 : Ref sig .tc := ⟨.hbm, 54, rfl⟩
abbrev main_call0_v5 : Ref sig .tc := ⟨.hbm, 55, rfl⟩
abbrev main_call0_v6 : Ref sig .tc := ⟨.hbm, 56, rfl⟩
abbrev main_call0_c_2 : Ref sig .tc := ⟨.hbm, 57, rfl⟩
abbrev main_call0_v7 : Ref sig .tc := ⟨.hbm, 58, rfl⟩
abbrev main_call0_v8 : Ref sig .tc := ⟨.hbm, 59, rfl⟩
abbrev main_call0_c_3 : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_call0_v12 : Ref sig .tc := ⟨.hbm, 64, rfl⟩
abbrev main_call0_v13 : Ref sig .tc := ⟨.hbm, 65, rfl⟩
abbrev main_call0_v14 : Ref sig .tc := ⟨.hbm, 66, rfl⟩
abbrev main_v36 : Ref sig .tc := ⟨.hbm, 67, rfl⟩
abbrev main_v37 : Ref sig .tc := ⟨.hbm, 68, rfl⟩
abbrev main_cst_6 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩

abbrev nD : Nat := 1
abbrev τ : Topo := Topo.v7x

variable {F : FTy → Type} [FloatOps F]
-- ==== NsaCompress.lean ====
abbrev S2x4x2x512x1024 : Shape := ⟨5, ![2, 4, 2, 512, 1024]⟩
abbrev S2x32x64 : Shape := ⟨3, ![2, 32, 64]⟩
abbrev S2x2048x256 : Shape := ⟨3, ![2, 2048, 256]⟩
abbrev S2x256x64 : Shape := ⟨3, ![2, 256, 64]⟩
abbrev S2x16x64 : Shape := ⟨3, ![2, 16, 64]⟩
abbrev S2x1x1024 : Shape := ⟨3, ![2, 1, 1024]⟩
abbrev S2x1024x256 : Shape := ⟨3, ![2, 1024, 256]⟩
abbrev S2x64x256 : Shape := ⟨3, ![2, 64, 256]⟩
abbrev S2x2x4x512x64 : Shape := ⟨5, ![2, 2, 4, 512, 64]⟩
abbrev S2x2x4x64x512 : Shape := ⟨5, ![2, 2, 4, 64, 512]⟩
abbrev S1x1x1x512x1024 : Shape := ⟨5, ![1, 1, 1, 512, 1024]⟩
abbrev S1x1x1024 : Shape := ⟨3, ![1, 1, 1024]⟩
abbrev S1x1024x256 : Shape := ⟨3, ![1, 1024, 256]⟩
abbrev S1x256x64 : Shape := ⟨3, ![1, 256, 64]⟩
abbrev S1x64x256 : Shape := ⟨3, ![1, 64, 256]⟩
abbrev S1x1x1x512x64 : Shape := ⟨5, ![1, 1, 1, 512, 64]⟩
abbrev S1x1x1x64x512 : Shape := ⟨5, ![1, 1, 1, 64, 512]⟩
abbrev S512x1024 : Shape := ⟨2, ![512, 1024]⟩
abbrev S1x1024 : Shape := ⟨2, ![1, 1024]⟩
abbrev S1024x256 : Shape := ⟨2, ![1024, 256]⟩
abbrev S512x256 : Shape := ⟨2, ![512, 256]⟩
abbrev S511x256 : Shape := ⟨2, ![511, 256]⟩
abbrev S1x256 : Shape := ⟨2, ![1, 256]⟩
abbrev S256x64 : Shape := ⟨2, ![256, 64]⟩
abbrev S512x64 : Shape := ⟨2, ![512, 64]⟩
abbrev S64x256 : Shape := ⟨2, ![64, 256]⟩
abbrev S64x512 : Shape := ⟨2, ![64, 512]⟩

abbrev nBuf : Space → Nat
  | .hbm => 17
  | .vmem => 18
  | .smem => 0
  | _ => 0

abbrev bufTy : (tb : Table) → Fin (tcTables nBuf tb) → BufTy
  | .hbm, ⟨0, _⟩ => ⟨S2x4x2x512x1024, .f32⟩
  | .hbm, ⟨1, _⟩ => ⟨S2x32x64, .f32⟩
  | .hbm, ⟨2, _⟩ => ⟨S2x2048x256, .f32⟩
  | .hbm, ⟨3, _⟩ => ⟨S2x256x64, .f32⟩
  | .hbm, ⟨4, _⟩ => ⟨S2x16x64, .f32⟩
  | .hbm, ⟨5, _⟩ => ⟨S2x1x1024, .f32⟩
  | .hbm, ⟨6, _⟩ => ⟨S2x16x64, .f32⟩
  | .hbm, ⟨7, _⟩ => ⟨S2x1x1024, .f32⟩
  | .hbm, ⟨8, _⟩ => ⟨S2x1024x256, .f32⟩
  | .hbm, ⟨9, _⟩ => ⟨S2x1024x256, .bf16⟩
  | .hbm, ⟨10, _⟩ => ⟨S2x1024x256, .f32⟩
  | .hbm, ⟨11, _⟩ => ⟨S2x1024x256, .bf16⟩
  | .hbm, ⟨12, _⟩ => ⟨S2x256x64, .bf16⟩
  | .hbm, ⟨13, _⟩ => ⟨S2x64x256, .f32⟩
  | .hbm, ⟨14, _⟩ => ⟨S2x64x256, .bf16⟩
  | .hbm, ⟨15, _⟩ => ⟨S2x2x4x512x64, .bf16⟩
  | .hbm, ⟨16, _⟩ => ⟨S2x2x4x64x512, .bf16⟩
  | .local _ .vmem, ⟨0, _⟩ => ⟨S1x1x1x512x1024, .f32⟩
  | .local _ .vmem, ⟨1, _⟩ => ⟨S1x1x1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S1x256x64, .bf16⟩
  | .local _ .vmem, ⟨11, _⟩ => ⟨S1x256x64, .bf16⟩
  | .local _ .vmem, ⟨12, _⟩ => ⟨S1x64x256, .bf16⟩
  | .local _ .vmem, ⟨13, _⟩ => ⟨S1x64x256, .bf16⟩
  | .local _ .vmem, ⟨14, _⟩ => ⟨S1x1x1x512x64, .bf16⟩
  | .local _ .vmem, ⟨15, _⟩ => ⟨S1x1x1x512x64, .bf16⟩
  | .local _ .vmem, ⟨16, _⟩ => ⟨S1x1x1x64x512, .bf16⟩
  | .local _ .vmem, ⟨17, _⟩ => ⟨S1x1x1x64x512, .bf16⟩
  | _, _ => ⟨S2x4x2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 4], ![false, false, false]⟩

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_8 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x1x1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x256x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x64x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x1x1x512x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x1x64x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== RefNsaCompressIdeal.lean ====
abbrev S2x4x2x512x1024 : Shape := ⟨5, ![2, 4, 2, 512, 1024]⟩
abbrev S2x32x64 : Shape := ⟨3, ![2, 32, 64]⟩
abbrev S2x2048x256 : Shape := ⟨3, ![2, 2048, 256]⟩
abbrev S2x256x64 : Shape := ⟨3, ![2, 256, 64]⟩
abbrev S2x4x2x512x16x64 : Shape := ⟨6, ![2, 4, 2, 512, 16, 64]⟩
abbrev S2x2x4x512x16x64 : Shape := ⟨6, ![2, 2, 4, 512, 16, 64]⟩
abbrev S2x2x4x511x16x64 : Shape := ⟨6, ![2, 2, 4, 511, 16, 64]⟩
abbrev S2x2x4x1x16x64 : Shape := ⟨6, ![2, 2, 4, 1, 16, 64]⟩
abbrev S2x2x4x512x32x64 : Shape := ⟨6, ![2, 2, 4, 512, 32, 64]⟩
abbrev S2x1x1x1x32x64 : Shape := ⟨6, ![2, 1, 1, 1, 32, 64]⟩
abbrev S2x2x4x512x2048 : Shape := ⟨5, ![2, 2, 4, 512, 2048]⟩
abbrev S2x2x4x512x256 : Shape := ⟨5, ![2, 2, 4, 512, 256]⟩
abbrev S_ : Shape := ⟨0, ![]⟩
abbrev S2x2x4x512x64 : Shape := ⟨5, ![2, 2, 4, 512, 64]⟩
abbrev S2x2x4x64x512 : Shape := ⟨5, ![2, 2, 4, 64, 512]⟩

abbrev nBuf : Space → Nat
  | .hbm => 36
  | .vmem => 0
  | .smem => 0
  | _ => 0

abbrev bufTy : (tb : Table) → Fin (tcTables nBuf tb) → BufTy
  | .hbm, ⟨0, _⟩ => ⟨S2x4x2x512x1024, .f32⟩
  | .hbm, ⟨1, _⟩ => ⟨S2x32x64, .f32⟩
  | .hbm, ⟨2, _⟩ => ⟨S2x2048x256, .f32⟩
  | .hbm, ⟨3, _⟩ => ⟨S2x256x64, .f32⟩
  | .hbm, ⟨4, _⟩ => ⟨S2x4x2x512x16x64, .f32⟩
  | .hbm, ⟨5, _⟩ => ⟨S2x2x4x512x16x64, .f32⟩
  | .hbm, ⟨6, _⟩ => ⟨S2x2x4x511x16x64, .f32⟩
  | .hbm, ⟨7, _⟩ => ⟨S2x2x4x1x16x64, .f32⟩
  | .hbm, ⟨8, _⟩ => ⟨S2x2x4x512x16x64, .f32⟩
  | .hbm, ⟨9, _⟩ => ⟨S2x2x4x512x32x64, .f32⟩
  | .hbm, ⟨10, _⟩ => ⟨S2x1x1x1x32x64, .f32⟩
  | .hbm, ⟨11, _⟩ => ⟨S2x2x4x512x32x64, .f32⟩
  | .hbm, ⟨12, _⟩ => ⟨S2x2x4x512x32x64, .f32⟩
  | .hbm, ⟨13, _⟩ => ⟨S2x2x4x512x2048, .f32⟩
  | .hbm, ⟨14, _⟩ => ⟨S2x2x4x512x256, .f32⟩
  | .hbm, ⟨15, _⟩ => ⟨S2x2x4x512x256, .f32⟩
  | .hbm, ⟨16, _⟩ => ⟨S2x2x4x512x256, .f32⟩
  | .hbm, ⟨17, _⟩ => ⟨S_, .f32⟩
  | .hbm, ⟨18, _⟩ => ⟨S2x2x4x512x256, .f32⟩
  | .hbm, ⟨19, _⟩ => ⟨S2x2x4x512x256, .f32⟩
  | .hbm, ⟨20, _⟩ => ⟨S2x2x4x512x256, .f32⟩
  | .hbm, ⟨21, _⟩ => ⟨S_, .f32⟩
  | .hbm, ⟨22, _⟩ => ⟨S2x2x4x512x256, .f32⟩
  | .hbm, ⟨23, _⟩ => ⟨S2x2x4x512x256, .f32⟩
  | .hbm, ⟨24, _⟩ => ⟨S2x2x4x512x256, .f32⟩
  | .hbm, ⟨25, _⟩ => ⟨S_, .f32⟩
  | .hbm, ⟨26, _⟩ => ⟨S2x2x4x512x256, .f32⟩
  | .hbm, ⟨27, _⟩ => ⟨S2x2x4x512x256, .f32⟩
  | .hbm, ⟨28, _⟩ => ⟨S_, .f32⟩
  | .hbm, ⟨29, _⟩ => ⟨S2x2x4x512x256, .f32⟩
  | .hbm, ⟨30, _⟩ => ⟨S2x2x4x512x256, .f32⟩
  | .hbm, ⟨31, _⟩ => ⟨S2x2x4x512x256, .f32⟩
  | .hbm, ⟨32, _⟩ => ⟨S2x2x4x512x64, .f32⟩
  | .hbm, ⟨33, _⟩ => ⟨S2x2x4x512x64, .bf16⟩
  | .hbm, ⟨34, _⟩ => ⟨S2x2x4x64x512, .f32⟩
  | .hbm, ⟨35, _⟩ => ⟨S2x2x4x64x512, .bf16⟩
  | _, _ => ⟨S2x4x2x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Proof.Rows.lean ====
/-
  THE ROWS. The formulas of the feed-forward sublayer for one row of the residual stream, as functions of extended reals:
  nothing here mentions a program, a block or an array. The kernels' blocks and the references' arrays are both read as these.
-/
module

public import Idealize.ShloMosaic.PureOps.Ideal.Laws

@[expose] public section

noncomputable section

namespace Cert.Trunk

open Idealize.ShloMosaic
open scoped BigOperators

/-- The length of a row, 1024, as the f32 literal the programs divide by. -/
def width : EReal := Ideal.ofBits .f32 0x44800000#32

/-- The f32 literal added below the root of a normalisation, the number nearest to a millionth. -/
def eps : EReal := Ideal.ofBits .f32 0x358637BD#32

/-- Row `r` of the `b`-th block of 512 rows, as a row of the array. -/
def rowAt (b : Fin 32) (r : Fin 512) : Fin 16384 := ⟨b.val * 512 + r.val, by omega⟩

/-- Root-mean-square normalisation of the row `x` with the gain `g`, at place `k`. -/
def rmsRow (x g : Fin 1024 → EReal) (k : Fin 1024) : EReal :=
  x k * Ideal.rsqrt (Ideal.div (∑ l, x l * x l) width + eps) * g k

/-- `a` times its logistic sigmoid. -/
def silu (a : EReal) : EReal := a * Ideal.div 1 (1 + Ideal.exp (-a))

/-- The row `x` times the matrix `w`, at column `j`. -/
def rowMul {n p : ℕ} (x : Fin n → EReal) (w : Fin n → Fin p → EReal) (j : Fin p) : EReal := ∑ k, x k * w k j

/-- The gated feed-forward sublayer of the row `y`: `y` plus the down projection of the gated hidden row. -/
def ffnRow (y g : Fin 1024 → EReal) (w v : Fin 1024 → Fin 2816 → EReal) (u : Fin 2816 → Fin 1024 → EReal)
    (j : Fin 1024) : EReal :=
  y j + rowMul (fun h => silu (rowMul (rmsRow y g) w h) * rowMul (rmsRow y g) v h) u j

/-- A linear map of the normalised row: the projection that a layer begins with. -/
def projRow {p : ℕ} (y g : Fin 1024 → EReal) (w : Fin 1024 → Fin p → EReal) (j : Fin p) : EReal :=
  rowMul (rmsRow y g) w j

/-- The residual row `y` after a layer's output row `o` is projected by `w` and added to it. -/
def addRow (y o : Fin 1024 → EReal) (w : Fin 1024 → Fin 1024 → EReal) (j : Fin 1024) : EReal := y j + rowMul o w j

/-- The Gaussian error linear unit in its hyperbolic tangent form. -/
def gelu (a : EReal) : EReal :=
  Ideal.ofBits .f32 0x3F000000#32 * a
    * (1 + Ideal.tanh (Ideal.ofBits .f32 0x3F4C422A#32 * (a + Ideal.ofBits .f32 0x3D372713#32 * (a * a * a))))

/-- The width of a half of the gated-MLP projection, 3072, as the programs write it. -/
def half : EReal := Ideal.ofBits .f32 0x45400000#32

/-- Layer norm of a half row. -/
def lnRow (x g b : Fin 3072 → EReal) (k : Fin 3072) : EReal :=
  (x k - Ideal.div (∑ j, x j) half)
      * Ideal.rsqrt (Ideal.div (∑ j, (x j - Ideal.div (∑ i, x i) half) * (x j - Ideal.div (∑ i, x i) half)) half + eps)
      * g k + b k

/-- The group of 384 lanes that lane `l` belongs to. -/
def group (l : Fin 3072) : Fin 8 := ⟨l.val / 384, by omega⟩

/-- The spatial gating unit at position `i` of a chunk of 128: the row `u` of the first half times the causal mix, in each
group of lanes, of the normalised rows `v` of the second half, plus the bias. -/
def mixRow (u : Fin 3072 → EReal) (v : Fin 128 → Fin 3072 → EReal) (g b : Fin 3072 → EReal)
    (w : Fin 8 → Fin 128 → EReal) (c : Fin 3072 → EReal) (i : Fin 128) (l : Fin 3072) : EReal :=
  u l * ((∑ s, (if s ≤ i then w (group l) s else 0) * lnRow (v s) g b l) + c l)

end Cert.Trunk

end
-- ==== Proof.SguBlock.lean ====
module

public import proofs.«01_k».proof.Defs
public import proofs.«01_k».proof.Proof.Gen.SguIdeal.Value
public import proofs.«01_k».proof.Proof.Rows
public import Idealize.ShloMosaic.Lib.Pointwise
public import Idealize.ShloMosaic.Lib.Claim
public import Idealize.ShloMosaic.Lib.Pipeline.ValueKit

/-! The spatial gating call, block by block. A grid point takes 512 rows — four chunks of 128 positions —
normalises the second half of each chunk, mixes the positions of a chunk under the causal mask with the weights of the
eight feature groups, gates the first half with the result and projects it. The kernel forms the 512 gated rows in 32
tiles (four chunks, eight groups); every one of them is the same `mixRow`. -/

@[expose] public section

noncomputable section

namespace Cert.Trunk.Sgu

open Idealize.ShloMosaic Idealize.ShloMosaic.TcCoe Idealize.SL.Sem
open Cert.SguIdeal Cert.SguIdeal.Gen

/-- The normalised rows of the first chunk of a block. -/
theorem block_ln (v : FVec Ideal S128x3072 .bf16) (g b : FVec Ideal S1x3072 .f32) (s : Fin 128) (l : Fin 3072) :
    k0_pay4 (F := Ideal) v g b (ix2 s l)
      = lnRow (fun k => v (ix2 s k)) (fun k => g (ix2 0 k)) (fun k => b (ix2 0 k)) l := by
  pointwise [k0_pay4, lnRow, half, eps]

/-- The normalised rows of the second chunk. -/
theorem block_ln2 (v : FVec Ideal S128x3072 .bf16) (g b : FVec Ideal S1x3072 .f32) (s : Fin 128) (l : Fin 3072) :
    k0_pay22 (F := Ideal) g b (k0_pay19 v) (k0_pay20 v) k0_pay21 (ix2 s l)
      = lnRow (fun k => v (ix2 s k)) (fun k => g (ix2 0 k)) (fun k => b (ix2 0 k)) l := by
  pointwise [k0_pay22, k0_pay19, k0_pay20, k0_pay21, lnRow, half, eps]

/-- The normalised rows of the third chunk. -/
theorem block_ln3 (v : FVec Ideal S128x3072 .bf16) (g b : FVec Ideal S1x3072 .f32) (s : Fin 128) (l : Fin 3072) :
    k0_pay36 (F := Ideal) v g b (ix2 s l)
      = lnRow (fun k => v (ix2 s k)) (fun k => g (ix2 0 k)) (fun k => b (ix2 0 k)) l := by
  pointwise [k0_pay36, lnRow, half, eps]

/-- The normalised rows of the fourth chunk. -/
theorem block_ln4 (v : FVec Ideal S128x3072 .bf16) (g b : FVec Ideal S1x3072 .f32) (s : Fin 128) (l : Fin 3072) :
    k0_pay54 (F := Ideal) g b (k0_pay51 v) (k0_pay52 v) k0_pay53 (ix2 s l)
      = lnRow (fun k => v (ix2 s k)) (fun k => g (ix2 0 k)) (fun k => b (ix2 0 k)) l := by
  pointwise [k0_pay54, k0_pay51, k0_pay52, k0_pay53, lnRow, half, eps]

/-- The causal mask as the programs write it: a comparison of 32-bit positions. -/
theorem keep (i s : Fin 128) (a : EReal) :
    Scalar.select (IntOp.cmpi .sge (BitVec.ofNat 32 i.val) (BitVec.ofNat 32 s.val)) a 0 = if s ≤ i then a else 0 := by
  rw [WordCmp.cmpi_sge_ofNat (by omega) (by omega), WordCmp.select_ofBool]
  simp only [decide_eq_true_eq, Fin.le_def]

/-- Row `s` of the chunk of 128 rows that row `r` lies in. -/
def chunkRow (r : Fin 512) (s : Fin 128) : Fin 512 := ⟨r.val / 128 * 128 + s.val, by omega⟩

/-- The position of row `r` in its chunk. -/
def chunkPos (r : Fin 512) : Fin 128 := ⟨r.val % 128, by omega⟩

/-- The last step of a grid point: the residual rows plus the projected gated rows. -/
theorem block_out (h : FVec Ideal S512x1024 .f32) (p : FVec Ideal S512x3072 .bf16) (wo : FVec Ideal S3072x1024 .bf16)
    (r : Fin 512) (j : Fin 1024) :
    k0_pay2 (F := Ideal) h p wo (ix2 r j) = h (ix2 r j) + rowMul (fun l => p (ix2 r l)) (fun l k => wo (ix2 l k)) j := by
  pointwise [k0_pay2, rowMul]

variable (m : (ℓ : Loc nD τ sig) → Buf (Elt Ideal) ℓ)

set_option maxHeartbeats 2000000 in
/-- A row of the block that a grid point writes, from the blocks it reads. -/
theorem out_row (c : Dev nD) (t : Fin cfg0.N) (x0 x1 : FVec Ideal S512x3072 .bf16) (x2 x3 : FVec Ideal S1x3072 .f32)
    (x4 : FVec Ideal S8x128x128 .f32) (x5 : FVec Ideal S128x3072 .f32) (x6 : FVec Ideal S3072x1024 .bf16)
    (x7 : FVec Ideal S512x1024 .f32) (h0 : iblk m c 0 t = x0) (h1 : iblk m c 1 t = x1) (h2 : iblk m c 2 t = x2)
    (h3 : iblk m c 3 t = x3) (h4 : iblk m c 4 t = x4) (h5 : iblk m c 5 t = x5) (h6 : iblk m c 6 t = x6)
    (h7 : iblk m c 7 t = x7) (r : Fin 512) (j : Fin 1024) :
    outsAt0 m c t (ix2 r j)
      = x7 (ix2 r j) + rowMul
        (mixRow (fun l => x0 (ix2 r l)) (fun s l => x1 (ix2 (chunkRow r s) l))
          (fun k => x2 (ix2 0 k)) (fun k => x3 (ix2 0 k)) (fun g s => x4 (ix3 g (chunkPos r) s))
          (fun l => x5 (ix2 (chunkPos r) l)) (chunkPos r))
        (fun l k => x6 (ix2 l k)) j := by
  unfold outsAt0; frame_out
  rw [h0, h1, h2, h3, h4, h5, h6, h7]
  refine (block_out _ _ _ _ _).trans ?_
  rw [View.readCov_eq_canon']
  congr 2
  funext l
  have hi : (Rect.unit (s := S512x3072) ![0, 0] ![512, 3072] inb_S512x3072_S512x3072_0_0).toLoadRect.idx (ix2 r l)
      = ix2 r l := by
    funext a
    refine Fin.ext ((Rect.idx_unit_val _ _ _ _ _).trans ?_)
    match a with
    | ⟨0, _⟩ => exact Nat.zero_add _
    | ⟨1, _⟩ => exact Nat.zero_add _
  refine (congrArg (View.canon _) hi).trans ?_
  canon_tiles x h
  all_goals
    obtain ⟨i, k, rfl⟩ : ∃ i k, x = ix2 i k := ⟨_, _, eq_ix2 x⟩
    simp only [ix2_0, ix2_1] at h0 h1
    pointwise [k0_pay1, k0_pay3, k0_pay5, k0_pay6, k0_pay7, k0_pay8, k0_pay9, k0_pay10, k0_pay11, k0_pay12, k0_pay13, k0_pay14,
      k0_pay15, k0_pay16, k0_pay17, k0_pay18, k0_pay23, k0_pay24, k0_pay25, k0_pay26, k0_pay27, k0_pay28,
      k0_pay29, k0_pay30, k0_pay31, k0_pay32, k0_pay33, k0_pay34, k0_pay35, k0_pay37, k0_pay38, k0_pay39,
      k0_pay40, k0_pay41, k0_pay42, k0_pay43, k0_pay44, k0_pay45, k0_pay46, k0_pay47, k0_pay48, k0_pay49,
      k0_pay50, k0_pay55, k0_pay56, k0_pay57, k0_pay58, k0_pay59, k0_pay60, k0_pay61, k0_pay62, k0_pay63,
      k0_pay64, k0_pay65, k0_pay66, block_ln, block_ln2,
      block_ln3, block_ln4, keep, mixRow]
    blk_point [chunkRow, chunkPos, group] <;>
      first | omega | exact propext (by simp only [Fin.le_def]; omega)

end Cert.Trunk.Sgu

end
-- ==== Proof.SguRef.lean ====
module

public import proofs.«01_k».proof.Proof.Gen.RefSguIdeal.Read
public import proofs.«01_k».proof.Proof.SguBlock

/-! The spatial gating call's reference, row by row. -/

@[expose] public section

noncomputable section

namespace Cert.Trunk.Sgu

open Idealize.ShloMosaic Idealize.ShloMosaic.TcCoe Idealize.SL.Sem
open Cert.RefSguIdeal Cert.RefSguIdeal.Read

/-- Position `p` of batch `n`, as a row of the flat arrays. -/
def flat (n : Fin 2) (p : Fin 8192) : Fin 16384 := ⟨n.val * 8192 + p.val, by omega⟩

/-- Position `s` of the chunk of 128 that position `p` lies in. -/
def chunkAt (p : Fin 8192) (s : Fin 128) : Fin 8192 := ⟨p.val / 128 * 128 + s.val, by omega⟩

/-- Where in its chunk position `p` lies. -/
def inChunk (p : Fin 8192) : Fin 128 := ⟨p.val % 128, by omega⟩

/-- The first half of the features. -/
def lo (l : Fin 3072) : Fin 6144 := ⟨l.val, by omega⟩

/-- The second half of the features. -/
def hi (l : Fin 3072) : Fin 6144 := ⟨3072 + l.val, by omega⟩

/-- The reference's normalised second half. -/
theorem ref_ln (z : FVec Ideal S16384x6144 .bf16) (g b : FVec Ideal S3072 .f32) (n : Fin 2) (p : Fin 8192)
    (l : Fin 3072) :
    val_main_v27 (F := Ideal) z g b (ix3 n p l)
      = lnRow (fun k => z (ix2 (flat n p) (hi k))) (fun k => g (ix1 k)) (fun k => b (ix1 k)) l := by
  pointwise [val_main_v27, val_main_v26, val_main_v25, val_main_v24, val_main_v23, val_main_v22, val_main_v21,
    val_main_v20, val_main_v19, val_main_v18, val_main_v17, val_main_v16, val_main_v15, val_main_v14, val_main_v13,
    val_main_v12, val_main_v11, val_main_v10, val_main_v9, val_main_v8, val_main_v7, val_main_v6, val_main_v5,
    val_main_v4, val_main_v3, val_main_v1, val_main_v0, val_main_cst, val_main_cst_0, val_main_cst_1, val_main_cst_2,
    val_main_cst_3, lnRow, half, eps, flat, hi]

/-- The reference's gated rows. -/
theorem ref_mix (z : FVec Ideal S16384x6144 .bf16) (g b : FVec Ideal S3072 .f32) (w : FVec Ideal S8x128x128 .f32)
    (d : FVec Ideal S8x128 .f32) (n : Fin 2) (p : Fin 8192) (l : Fin 3072) :
    val_main_v41 (F := Ideal) z g b w d (ix3 n p l)
      = mixRow (fun k => z (ix2 (flat n p) (lo k))) (fun s k => z (ix2 (flat n (chunkAt p s)) (hi k)))
          (fun k => g (ix1 k)) (fun k => b (ix1 k)) (fun e s => w (ix3 e (inChunk p) s))
          (fun k => d (ix2 (group k) (inChunk p))) (inChunk p) l := by
  have hadd (x : BitVec 32) : IntOp.addi x 0#32 = x := BitVec.add_zero x
  pointwise [val_main_v41, val_main_v40, val_main_v39, val_main_v38, val_main_v37, val_main_v36, val_main_v35, val_main_v34, val_main_v33, val_main_v32, val_main_v31, val_main_v30, val_main_call0_v5, val_main_call0_cst, val_main_call0_v4, val_main_call0_v3, val_main_call0_v2, val_main_call0_v1, val_main_call0_c, val_main_call0_v0, val_main_v29, val_main_cst_4, val_main_v28, val_main_v2, val_main_v1, val_main_v0, ref_ln, hadd, mixRow]
  have hkeep (x : Fin 128) (a : EReal) := keep (inChunk p) x a
  congr 2
  refine Finset.sum_congr rfl fun x _ => (hkeep x _).trans ?_
  split
  · exact mul_comm _ _
  · exact (zero_mul _).symm

/-- A row of the reference's array. -/
theorem ref_row (z : FVec Ideal S16384x6144 .bf16) (g b : FVec Ideal S3072 .f32) (w : FVec Ideal S8x128x128 .f32)
    (d : FVec Ideal S8x128 .f32) (wo : FVec Ideal S3072x1024 .f32) (h : FVec Ideal S16384x1024 .f32)
    (n : Fin 2) (p : Fin 8192) (j : Fin 1024) :
    val_main_v44 (F := Ideal) z g b w d wo h (ix2 (flat n p) j)
      = h (ix2 (flat n p) j) + rowMul
        (mixRow (fun k => z (ix2 (flat n p) (lo k))) (fun s k => z (ix2 (flat n (chunkAt p s)) (hi k)))
          (fun k => g (ix1 k)) (fun k => b (ix1 k)) (fun e s => w (ix3 e (inChunk p) s))
          (fun k => d (ix2 (group k) (inChunk p))) (inChunk p))
        (fun l k => wo (ix2 l k)) j := by
  have hn : (⟨(flat n p).val / 8192, by omega⟩ : Fin 2) = n := Fin.ext (show (n.val * 8192 + p.val) / 8192 = n.val by omega)
  have hp : (⟨(flat n p).val % 8192, by omega⟩ : Fin 8192) = p :=
    Fin.ext (show (n.val * 8192 + p.val) % 8192 = p.val by omega)
  pointwise [val_main_v44, val_main_v43, val_main_v42, ref_mix, rowMul, hn, hp]

end Cert.Trunk.Sgu

end
-- ==== Proof.Sgu.lean ====
module

public import proofs.«01_k».proof.Defs
public import proofs.«01_k».proof.Proof.Gen.SguIdeal.Value
public import proofs.«01_k».proof.Proof.Gen.RefSguIdeal.Run
public import proofs.«01_k».proof.Proof.Gen.RefSguIdeal.Read
public import proofs.«01_k».proof.Proof.SguBlock
public import proofs.«01_k».proof.Proof.SguRef
public import Idealize.ShloMosaic.Lib.Pointwise
public import Idealize.ShloMosaic.Lib.Claim
public import Idealize.ShloMosaic.Lib.Pipeline.ValueKit

/-! The spatial gating call: the array its grid leaves is the reference's. -/

@[expose] public section

noncomputable section

namespace Cert.Trunk.Sgu

open Idealize.ShloMosaic Idealize.ShloMosaic.TcCoe Idealize.SL.Sem
open Cert.SguIdeal Cert.SguIdeal.Gen

/-- The batch that the 512 rows of a grid point belong to. -/
def batchOf (b : Fin 32) : Fin 2 := ⟨b.val / 16, by omega⟩

/-- Row `r` of a grid point's block, as a position of its batch. -/
def posOf (b : Fin 32) (r : Fin 512) : Fin 8192 := ⟨b.val % 16 * 512 + r.val, by omega⟩

/-- The same row, counted over both batches. -/
theorem flat_row (b : Fin 32) (r : Fin 512) : flat (batchOf b) (posOf b r) = rowAt b r :=
  Fin.ext (show b.val / 16 * 8192 + (b.val % 16 * 512 + r.val) = b.val * 512 + r.val by omega)

/-- A block starts at the start of a chunk. -/
theorem pos_chunk (b : Fin 32) (r : Fin 512) : inChunk (posOf b r) = chunkPos r :=
  Fin.ext (show (b.val % 16 * 512 + r.val) % 128 = r.val % 128 by omega)

variable (m : (ℓ : Loc nD τ sig) → Buf (Elt Ideal) ℓ)

/-- The result array, as the reference's function of the kernel's arguments. -/
def G (c : Dev nD) : FVec Ideal S16384x1024 .f32 :=
  Cert.RefSguIdeal.Read.val_main_v44 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-! The rows of the arrays that each grid point reads and writes. -/

theorem idx0 : ∀ t : Fin cfg0.N, win0_0.index t = ![(grid0.coords t 0).val, 0] := (by decide +kernel : ∀ t : Fin grid0.N, _)
theorem idx1 : ∀ t : Fin cfg0.N, win0_1.index t = ![(grid0.coords t 0).val, 1] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![(grid0.coords t 0).val, 0] := (by decide +kernel : ∀ t : Fin grid0.N, _)
theorem idx8 : ∀ t : Fin cfg0.N, win0_8.index t = ![(grid0.coords t 0).val, 0] := (by decide +kernel : ∀ t : Fin grid0.N, _)

/-- The array after the grid is the reference's. -/
theorem final (c : Dev nD) : (dats m 0 c).arrAt 8 cfg0.N = G m c := by
  refine (dats m 0 c).arrAt_eq_of_covers 8 _ (by decide +kernel) fun t hf y => ?_
  have hf' : rowAt (grid0.coords t 0) (y 0) = flat (batchOf (grid0.coords t 0)) (posOf (grid0.coords t 0) (y 0)) :=
    (flat_row _ _).symm
  have he : ((View.whole main_v6).slice (win0_8.rect t)).emb y = ix2 (rowAt (grid0.coords t 0) (y 0)) (y 1) := by
    blk_ext [idx8, rowAt]
  rw [hf'] at he
  have hy : y = ix2 (y 0) (y 1) := eq_ix2 y
  blk_simp
  rw [after0_8, he, hy]
  refine (out_row m c t _ _ _ _ _ _ _ _ rfl rfl rfl rfl rfl rfl rfl rfl _ _).trans
    ((?_ : _ = _).trans (ref_row _ _ _ _ _ _ _ _ _ _).symm)
  have hc : inChunk (posOf (grid0.coords t 0) (y 0)) = chunkPos (y 0) := pos_chunk _ _
  rw [ix2_0, ix2_1, hc]
  blk_point [iblk, V, idx0, idx1, idx2, idx3, idx4, idx5, idx6, idx7, flat, batchOf, posOf, chunkRow, chunkAt, lo, hi, group]

/-- The kernel and the reference leave the same array. -/
theorem claim : Cert.algebraic_SguIdeal_RefSguIdeal := by
  intro m g m' g' _ hagree
  refine ⟨G m, (θ_run _ _ _).mono (fun r h c => ⟨(h c).1.trans (final m c), (h c).2⟩) (Cert.SguIdeal.Value.run_blocks m g),
    (θ_run _ _ _).mono (fun r h c => ⟨(h c).1.trans ?_, (h c).2⟩) (Cert.RefSguIdeal.Value.run m' g')⟩
  obtain ⟨h0, h1, h2, h3, h4, h5, h6⟩ := hagree c
  refine (Cert.RefSguIdeal.Read.val_main_v44_eq (F := Ideal) m' c).trans ?_
  rw [h0, h1, h2, h3, h4, h5, h6]
  rfl

end Cert.Trunk.Sgu

end
-- ==== Proof.Ffn.lean ====
module

public import proofs.«01_k».proof.Proof.Gen.FfnIdeal.Value
public import proofs.«01_k».proof.Defs
public import proofs.«01_k».proof.Proof.Gen.RefFfnIdeal.Run
public import proofs.«01_k».proof.Proof.Gen.RefFfnIdeal.Read
public import proofs.«01_k».proof.Proof.Rows
public import Idealize.ShloMosaic.Lib.Pointwise
public import Idealize.ShloMosaic.Lib.Claim
public import Idealize.ShloMosaic.Lib.Pipeline.ValueKit

/-! The feed-forward call: every grid point writes the 512 rows `ffnRow h g w v u` of its block, and the reference's
array has the same rows. -/

@[expose] public section

noncomputable section

namespace Cert.Trunk.Ffn

open Idealize.ShloMosaic Idealize.ShloMosaic.TcCoe Idealize.SL.Sem
open Cert.FfnIdeal Cert.FfnIdeal.Gen

/-- One row of the block that the kernel stores. -/
theorem block_row (a : FVec Ideal S512x1024 .f32) (g : FVec Ideal S1x1024 .f32) (w v : FVec Ideal S1024x2816 .bf16)
    (u : FVec Ideal S2816x1024 .bf16) (r : Fin 512) (j : Fin 1024) :
    k0_pay1 (F := Ideal) a g w v u (ix2 r j)
      = ffnRow (fun k => a (ix2 r k)) (fun k => g (ix2 0 k)) (fun k h => w (ix2 k h)) (fun k h => v (ix2 k h))
          (fun h l => u (ix2 h l)) j := by
  pointwise [k0_pay1, ffnRow, silu, rmsRow, rowMul, width, eps]
  simp only [zero_sub]

open Cert.RefFfnIdeal.Read in
/-- One row of the reference's result. -/
theorem ref_row (a : FVec Ideal S16384x1024 .f32) (g : FVec Ideal Cert.RefFfnIdeal.S1024 .f32)
    (w v : FVec Ideal S1024x2816 .f32) (u : FVec Ideal S2816x1024 .f32) (r : Fin 16384) (j : Fin 1024) :
    val_main_v18 (F := Ideal) a g w v u (ix2 r j)
      = ffnRow (fun k => a (ix2 r k)) (fun k => g (ix1 k)) (fun k h => w (ix2 k h)) (fun k h => v (ix2 k h))
          (fun h l => u (ix2 h l)) j := by
  pointwise [val_main_v18, val_main_v17, val_main_v16, val_main_v15, val_main_v14, val_main_v13, val_main_call0_v5,
    val_main_call0_v4, val_main_call0_v3, val_main_call0_v2, val_main_call0_v1, val_main_call0_v0, val_main_v12,
    val_main_v11, val_main_v10, val_main_v9, val_main_v8, val_main_v7, val_main_v6, val_main_v5, val_main_v4,
    val_main_v3, val_main_v2, val_main_v1, val_main_v0, val_main_cst, val_main_cst_0, val_main_cst_1,
    val_main_call0_cst, val_main_call0_cst_0, ffnRow, silu, rmsRow, rowMul, width, eps]

variable (m : (ℓ : Loc nD τ sig) → Buf (Elt Ideal) ℓ)

/-- The result array, as the reference's function of the kernel's arguments. -/
def G (c : Dev nD) : FVec Ideal S16384x1024 .f32 :=
  Cert.RefFfnIdeal.Read.val_main_v18 (F := Ideal) (m ((c : Thread nD τ).loc main_arg0))
    (m ((c : Thread nD τ).loc main_arg1)) (m ((c : Thread nD τ).loc main_arg2)) (m ((c : Thread nD τ).loc main_arg3))
    (m ((c : Thread nD τ).loc main_arg4))

/-! The rows of the arrays that each grid point reads and writes. -/

theorem idx0 : ∀ t : Fin cfg0.N, win0_0.index t = ![(grid0.coords t 0).val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![(grid0.coords t 0).val, 0] := (by decide +kernel : ∀ t : Fin grid0.N, _)

/-- The array after the grid is the reference's. -/
theorem final (c : Dev nD) : (dats m 0 c).arrAt 5 cfg0.N = G m c := by
  refine (dats m 0 c).arrAt_eq_of_covers 5 _ (by decide +kernel) fun t hf y => ?_
  have he : ((View.whole main_v4).slice (win0_5.rect t)).emb y = ix2 (rowAt (grid0.coords t 0) (y 0)) (y 1) := by blk_ext [idx5, rowAt]
  have hy : y = ix2 (y 0) (y 1) := eq_ix2 y
  blk_simp
  rw [after0_5]; frame_out
  rw [he, hy]
  refine (block_row _ _ _ _ _ _ _).trans ((?_ : _ = _).trans (ref_row _ _ _ _ _ _ _).symm)
  blk_point [iblk, V, idx0, idx1, idx2, idx3, idx4, rowAt]

/-- The kernel and the reference leave the same array. -/
theorem claim : Cert.algebraic_FfnIdeal_RefFfnIdeal := by
  intro m g m' g' _ hagree
  refine ⟨G m, (θ_run _ _ _).mono (fun r h c => ⟨(h c).1.trans (final m c), (h c).2⟩) (Cert.FfnIdeal.Value.run_blocks m g),
    (θ_run _ _ _).mono (fun r h c => ⟨(h c).1.trans ?_, (h c).2⟩) (Cert.RefFfnIdeal.Value.run m' g')⟩
  obtain ⟨h0, h1, h2, h3, h4⟩ := hagree c
  refine (Cert.RefFfnIdeal.Read.val_main_v18_eq (F := Ideal) _ _ _ _ _).trans ?_
  rw [h0, h1, h2, h3, h4]
  rfl

end Cert.Trunk.Ffn

end
-- ==== Proof.FfnRows.lean ====
module

public import proofs.«01_k».proof.Defs
public import proofs.«01_k».proof.Proof.Gen.FfnRowsIdeal.Value
public import proofs.«01_k».proof.Proof.Gen.RefFfnRowsIdeal.Run
public import proofs.«01_k».proof.Proof.Gen.RefFfnRowsIdeal.Read
public import proofs.«01_k».proof.Proof.Rows
public import Idealize.ShloMosaic.Lib.Pointwise
public import Idealize.ShloMosaic.Lib.Claim
public import Idealize.ShloMosaic.Lib.Pipeline.ValueKit

/-! The feed-forward call that first adds the projection of the layer's output: every grid point writes the 512 rows
`ffnRow (addRow y o wo) g w v u` of its block, and the reference's array has the same rows. -/

@[expose] public section

noncomputable section

namespace Cert.Trunk.FfnRows

open Idealize.ShloMosaic Idealize.ShloMosaic.TcCoe Idealize.SL.Sem
open Cert.FfnRowsIdeal Cert.FfnRowsIdeal.Gen

/-- The rows the kernel first forms: the residual stream plus the projected output of the layer. -/
theorem block_sum (a : FVec Ideal S512x1024 .f32) (o : FVec Ideal S512x1024 .bf16) (wo : FVec Ideal S1024x1024 .f32)
    (r : Fin 512) (j : Fin 1024) :
    k0_pay2 (F := Ideal) a o wo (ix2 r j)
      = addRow (fun k => a (ix2 r k)) (fun k => o (ix2 r k)) (fun k h => wo (ix2 k h)) j := by
  pointwise [k0_pay2, addRow, rowMul]

/-- A row of the block that a grid point writes. -/
theorem block_row (a : FVec Ideal S512x1024 .f32) (g : FVec Ideal S1x1024 .f32) (w v : FVec Ideal S1024x2816 .f32)
    (u : FVec Ideal S2816x1024 .f32) (o : FVec Ideal S512x1024 .bf16) (wo : FVec Ideal S1024x1024 .f32)
    (r : Fin 512) (j : Fin 1024) :
    k0_pay1 (F := Ideal) (k0_pay2 (F := Ideal) a o wo) (k0_pay3 (F := Ideal) a o wo g w v) u (ix2 r j)
      = ffnRow (addRow (fun k => a (ix2 r k)) (fun k => o (ix2 r k)) (fun k h => wo (ix2 k h)))
          (fun k => g (ix2 0 k)) (fun k h => w (ix2 k h)) (fun k h => v (ix2 k h)) (fun h l => u (ix2 h l)) j := by
  pointwise [k0_pay1, k0_pay3, k0_pay2, ffnRow, silu, rmsRow, addRow, rowMul, width, eps, zero_sub]

open Cert.RefFfnRowsIdeal.Read in
/-- A row of the reference's array. -/
theorem ref_row (a : FVec Ideal S16384x1024 .f32) (g : FVec Ideal S1024 .f32) (w v : FVec Ideal S1024x2816 .f32)
    (u : FVec Ideal S2816x1024 .f32) (o : FVec Ideal S16384x1024 .bf16) (wo : FVec Ideal S1024x1024 .f32)
    (r : Fin 16384) (j : Fin 1024) :
    val_main_v21 (F := Ideal) a g w v u o wo (ix2 r j)
      = ffnRow (addRow (fun k => a (ix2 r k)) (fun k => o (ix2 r k)) (fun k h => wo (ix2 k h)))
          (fun k => g (ix1 k)) (fun k h => w (ix2 k h)) (fun k h => v (ix2 k h)) (fun h l => u (ix2 h l)) j := by
  pointwise [val_main_v21, val_main_v20, val_main_v19, val_main_v18, val_main_v17, val_main_v16, val_main_v15,
    val_main_v14, val_main_v13, val_main_call0_v5, val_main_call0_v4, val_main_call0_v3, val_main_call0_v2,
    val_main_call0_v1, val_main_call0_v0, val_main_v12, val_main_v11, val_main_v10, val_main_v9, val_main_v8,
    val_main_v7, val_main_v6, val_main_v5, val_main_v4, val_main_v3, val_main_v2, val_main_v1, val_main_v0,
    val_main_cst, val_main_cst_0, val_main_cst_1, val_main_call0_cst, val_main_call0_cst_0, ffnRow, silu, rmsRow,
    addRow, rowMul, width, eps]

variable (m : (ℓ : Loc nD τ sig) → Buf (Elt Ideal) ℓ)

/-- The result array, as the reference's function of the kernel's arguments. -/
def G (c : Dev nD) : FVec Ideal S16384x1024 .f32 :=
  Cert.RefFfnRowsIdeal.Read.val_main_v21 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-! The rows of the arrays that each grid point reads and writes. -/

theorem idx0 : ∀ t : Fin cfg0.N, win0_0.index t = ![(grid0.coords t 0).val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![(grid0.coords t 0).val, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![(grid0.coords t 0).val, 0] := (by decide +kernel : ∀ t : Fin grid0.N, _)

/-- The array after the grid is the reference's. -/
theorem final (c : Dev nD) : (dats m 0 c).arrAt 7 cfg0.N = G m c := by
  refine (dats m 0 c).arrAt_eq_of_covers 7 _ (by decide +kernel) fun t hf y => ?_
  have he : ((View.whole main_v5).slice (win0_7.rect t)).emb y = ix2 (rowAt (grid0.coords t 0) (y 0)) (y 1) := by
    blk_ext [idx7, rowAt]
  have hy : y = ix2 (y 0) (y 1) := eq_ix2 y
  blk_simp
  rw [after0_7]; frame_out
  rw [he, hy]
  refine (block_row _ _ _ _ _ _ _ _ _).trans ((?_ : _ = _).trans (ref_row _ _ _ _ _ _ _ _ _).symm)
  blk_point [iblk, V, idx0, idx1, idx2, idx3, idx4, idx5, idx6, rowAt]

/-- The kernel and the reference leave the same array. -/
theorem claim : Cert.algebraic_FfnRowsIdeal_RefFfnRowsIdeal := by
  intro m g m' g' _ hagree
  refine ⟨G m, (θ_run _ _ _).mono (fun r h c => ⟨(h c).1.trans (final m c), (h c).2⟩) (Cert.FfnRowsIdeal.Value.run_blocks m g),
    (θ_run _ _ _).mono (fun r h c => ⟨(h c).1.trans ?_, (h c).2⟩) (Cert.RefFfnRowsIdeal.Value.run m' g')⟩
  obtain ⟨h0, h1, h2, h3, h4, h5, h6⟩ := hagree c
  refine (Cert.RefFfnRowsIdeal.Read.val_main_v21_eq (F := Ideal) m' c).trans ?_
  rw [h0, h1, h2, h3, h4, h5, h6]
  rfl

end Cert.Trunk.FfnRows

end
-- ==== Proof.FfnFinal.lean ====
module

public import proofs.«01_k».proof.Defs
public import proofs.«01_k».proof.Proof.Gen.FfnFinalIdeal.Value
public import proofs.«01_k».proof.Proof.Gen.RefFfnFinalIdeal.Run
public import proofs.«01_k».proof.Proof.Gen.RefFfnFinalIdeal.Read
public import proofs.«01_k».proof.Proof.Rows
public import Idealize.ShloMosaic.Lib.Pointwise
public import Idealize.ShloMosaic.Lib.Claim
public import Idealize.ShloMosaic.Lib.Pipeline.ValueKit

/-! The last feed-forward call: it adds the projection of the layer's output, held channel by channel, to the residual
stream, adds the feed-forward row, and normalises the row with the final gain. -/

@[expose] public section

noncomputable section

namespace Cert.Trunk.FfnFinal

open Idealize.ShloMosaic Idealize.ShloMosaic.TcCoe Idealize.SL.Sem
open Cert.FfnFinalIdeal Cert.FfnFinalIdeal.Gen

/-- The rows the kernel first forms: the residual stream plus the projected output of the layer. -/
theorem block_sum (a : FVec Ideal S512x1024 .f32) (o : FVec Ideal S1x1024x512 .bf16) (wo : FVec Ideal S1024x1024 .f32)
    (r : Fin 512) (j : Fin 1024) :
    k0_pay2 (F := Ideal) a o wo (ix2 r j)
      = addRow (fun k => a (ix2 r k)) (fun k => o (ix3 0 k r)) (fun k h => wo (ix2 k h)) j := by
  pointwise [k0_pay2, addRow, rowMul]

/-- The row of the batch and the position that row `i` of the flattened array stands for. -/
def batchOf (i : Fin 16384) : Fin 2 := ⟨i.val / 8192, by omega⟩

@[inherit_doc batchOf]
def posOf (i : Fin 16384) : Fin 8192 := ⟨i.val % 8192, by omega⟩

open Cert.RefFfnFinalIdeal.Read in
/-- The same rows in the reference. -/
theorem ref_sum (a : FVec Ideal S16384x1024 .f32) (o : FVec Ideal S2x1024x8192 .bf16) (wo : FVec Ideal S1024x1024 .f32)
    (r : Fin 16384) (j : Fin 1024) :
    val_main_v4 (F := Ideal) a o wo (ix2 r j)
      = addRow (fun k => a (ix2 r k)) (fun k => o (ix3 (batchOf r) k (posOf r))) (fun k h => wo (ix2 k h)) j := by
  pointwise [val_main_v4, val_main_v3, val_main_v2, val_main_v1, val_main_v0, addRow, rowMul, batchOf, posOf]

/-- A row of the block that a grid point writes. -/
theorem block_row (a : FVec Ideal S512x1024 .f32) (g : FVec Ideal S1x1024 .f32) (w v : FVec Ideal S1024x2816 .f32)
    (u : FVec Ideal S2816x1024 .f32) (gf : FVec Ideal S1x1024 .f32) (o : FVec Ideal S1x1024x512 .bf16)
    (wo : FVec Ideal S1024x1024 .f32) (r : Fin 512) (j : Fin 1024) :
    k0_pay1 (F := Ideal) (k0_pay2 (F := Ideal) a o wo) (k0_pay3 (F := Ideal) a o wo g w v) u gf (ix2 r j)
      = rmsRow (ffnRow (addRow (fun k => a (ix2 r k)) (fun k => o (ix3 0 k r)) (fun k h => wo (ix2 k h)))
          (fun k => g (ix2 0 k)) (fun k h => w (ix2 k h)) (fun k h => v (ix2 k h)) (fun h l => u (ix2 h l)))
          (fun k => gf (ix2 0 k)) j := by
  pointwise [k0_pay1, k0_pay3, block_sum, ffnRow, silu, rmsRow, rowMul, width, eps, zero_sub]

open Cert.RefFfnFinalIdeal.Read in
/-- A row of the reference's array before the final norm. -/
theorem ref_ffn (a : FVec Ideal S16384x1024 .f32) (g : FVec Ideal Cert.RefFfnFinalIdeal.S1024 .f32)
    (w v : FVec Ideal S1024x2816 .f32) (u : FVec Ideal S2816x1024 .f32) (o : FVec Ideal S2x1024x8192 .bf16)
    (wo : FVec Ideal S1024x1024 .f32) (r : Fin 16384) (j : Fin 1024) :
    val_main_v23 (F := Ideal) a g w v u o wo (ix2 r j)
      = ffnRow (addRow (fun k => a (ix2 r k)) (fun k => o (ix3 (batchOf r) k (posOf r))) (fun k h => wo (ix2 k h)))
          (fun k => g (ix1 k)) (fun k h => w (ix2 k h)) (fun k h => v (ix2 k h)) (fun h l => u (ix2 h l)) j := by
  pointwise [val_main_v23, val_main_v22, val_main_v21, val_main_v20, val_main_v19, val_main_v18, val_main_v17,
    val_main_v16, val_main_v15, val_main_v14, val_main_v13, val_main_v12, val_main_v11, val_main_v10, val_main_v9,
    val_main_v8, val_main_v7, val_main_v6, val_main_v5, ref_sum, val_main_call0_v5, val_main_call0_v4,
    val_main_call0_v3, val_main_call0_v2, val_main_call0_v1, val_main_call0_v0, val_main_cst, val_main_cst_0,
    val_main_cst_1, val_main_call0_cst, val_main_call0_cst_0, ffnRow, silu, rmsRow, rowMul, width, eps]

open Cert.RefFfnFinalIdeal.Read in
/-- A row of the reference's array. -/
theorem ref_row (a : FVec Ideal S16384x1024 .f32) (g : FVec Ideal Cert.RefFfnFinalIdeal.S1024 .f32)
    (w v : FVec Ideal S1024x2816 .f32) (u : FVec Ideal S2816x1024 .f32)
    (gf : FVec Ideal Cert.RefFfnFinalIdeal.S1024 .f32) (o : FVec Ideal S2x1024x8192 .bf16)
    (wo : FVec Ideal S1024x1024 .f32) (r : Fin 16384) (j : Fin 1024) :
    val_main_v36 (F := Ideal) a g w v u gf o wo (ix2 r j)
      = rmsRow (ffnRow (addRow (fun k => a (ix2 r k)) (fun k => o (ix3 (batchOf r) k (posOf r)))
            (fun k h => wo (ix2 k h)))
          (fun k => g (ix1 k)) (fun k h => w (ix2 k h)) (fun k h => v (ix2 k h)) (fun h l => u (ix2 h l)))
          (fun k => gf (ix1 k)) j := by
  pointwise [val_main_v36, val_main_v35, val_main_v34, val_main_v33, val_main_v32, val_main_v31, val_main_v30,
    val_main_v29, val_main_v28, val_main_v27, val_main_v26, val_main_v25, val_main_v24, ref_ffn, val_main_cst_2,
    val_main_cst_3, val_main_cst_4, rmsRow, width, eps]

variable (m : (ℓ : Loc nD τ sig) → Buf (Elt Ideal) ℓ)

/-- The result array, as the reference's function of the kernel's arguments. -/
def G (c : Dev nD) : FVec Ideal S16384x1024 .f32 :=
  Cert.RefFfnFinalIdeal.Read.val_main_v36 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7))

/-! The rows of the arrays that each grid point reads and writes. -/

theorem idx0 : ∀ t : Fin cfg0.N, win0_0.index t = ![(grid0.coords t 0).val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![(grid0.coords t 0).val / 16, 0, (grid0.coords t 0).val % 16] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![(grid0.coords t 0).val, 0] := (by decide +kernel : ∀ t : Fin grid0.N, _)

/-- The array after the grid is the reference's. -/
theorem final (c : Dev nD) : (dats m 0 c).arrAt 8 cfg0.N = G m c := by
  refine (dats m 0 c).arrAt_eq_of_covers 8 _ (by decide +kernel) fun t hf y => ?_
  have he : ((View.whole main_v6).slice (win0_8.rect t)).emb y = ix2 (rowAt (grid0.coords t 0) (y 0)) (y 1) := by
    blk_ext [idx8, rowAt]
  have hy : y = ix2 (y 0) (y 1) := eq_ix2 y
  blk_simp
  rw [after0_8]; frame_out
  rw [he, hy]
  refine (block_row _ _ _ _ _ _ _ _ _ _).trans ((?_ : _ = _).trans (ref_row _ _ _ _ _ _ _ _ _ _).symm)
  blk_point [iblk, V, idx0, idx1, idx2, idx3, idx4, idx5, idx6, idx7, rowAt, batchOf, posOf]

/-- The kernel and the reference leave the same array. -/
theorem claim : Cert.algebraic_FfnFinalIdeal_RefFfnFinalIdeal := by
  intro m g m' g' _ hagree
  refine ⟨G m, (θ_run _ _ _).mono (fun r h c => ⟨(h c).1.trans (final m c), (h c).2⟩) (Cert.FfnFinalIdeal.Value.run_blocks m g),
    (θ_run _ _ _).mono (fun r h c => ⟨(h c).1.trans ?_, (h c).2⟩) (Cert.RefFfnFinalIdeal.Value.run m' g')⟩
  obtain ⟨h0, h1, h2, h3, h4, h5, h6, h7⟩ := hagree c
  refine (Cert.RefFfnFinalIdeal.Read.val_main_v36_eq (F := Ideal) m' c).trans ?_
  rw [h0, h1, h2, h3, h4, h5, h6, h7]
  rfl

end Cert.Trunk.FfnFinal

end
-- ==== Proof.GmlpIn.lean ====
module

public import proofs.«01_k».proof.Defs
public import proofs.«01_k».proof.Proof.Gen.GmlpInIdeal.Value
public import proofs.«01_k».proof.Proof.Gen.RefGmlpInIdeal.Run
public import proofs.«01_k».proof.Proof.Gen.RefGmlpInIdeal.Read
public import proofs.«01_k».proof.Proof.Rows
public import Idealize.ShloMosaic.Lib.Pointwise
public import Idealize.ShloMosaic.Lib.Claim
public import Idealize.ShloMosaic.Lib.Pipeline.ValueKit

/-! The first call of the gated-MLP layer: every grid point writes 512 rows, each the tanh gelu of the projection of a
normalised row plus a bias; the reference's array has the same rows. -/

@[expose] public section

noncomputable section

namespace Cert.Trunk.GmlpIn

open Idealize.ShloMosaic Idealize.ShloMosaic.TcCoe Idealize.SL.Sem
open Cert.GmlpInIdeal Cert.GmlpInIdeal.Gen

/-- The tanh form of the gelu, with its factors grouped as the reference has them. -/
theorem gelu_eq (a : EReal) :
    a * (Ideal.ofBits .f32 0x3F000000#32 * (1 + Ideal.tanh (Ideal.ofBits .f32 0x3F4C422A#32
        * (a + Ideal.ofBits .f32 0x3D372713#32 * (a * a * a))))) = gelu a := by
  rw [gelu, ← mul_assoc, mul_comm a (Ideal.ofBits .f32 0x3F000000#32)]

/-- A row of the block that a grid point writes. -/
theorem block_row (a : FVec Ideal S512x1024 .f32) (g : FVec Ideal S1x1024 .f32) (w : FVec Ideal S1024x6144 .f32)
    (b : FVec Ideal S1x6144 .f32) (r : Fin 512) (j : Fin 6144) :
    k0_pay1 (F := Ideal) a g w b (ix2 r j)
      = gelu (projRow (fun k => a (ix2 r k)) (fun k => g (ix2 0 k)) (fun k h => w (ix2 k h)) j + b (ix2 0 j)) := by
  pointwise [k0_pay1, gelu, projRow, rmsRow, rowMul, width, eps]

open Cert.RefGmlpInIdeal.Read in
/-- A row of the reference's projection, before the gelu. -/
theorem ref_proj (a : FVec Ideal S16384x1024 .f32) (g : FVec Ideal Cert.RefGmlpInIdeal.S1024 .f32)
    (w : FVec Ideal S1024x6144 .f32) (b : FVec Ideal Cert.RefGmlpInIdeal.S6144 .f32) (r : Fin 16384) (j : Fin 6144) :
    val_main_v16 (F := Ideal) a g w b (ix2 r j)
      = projRow (fun k => a (ix2 r k)) (fun k => g (ix1 k)) (fun k h => w (ix2 k h)) j + b (ix1 j) := by
  pointwise [val_main_v16, val_main_v15, val_main_v14, val_main_v13, val_main_v12, val_main_v11, val_main_v10,
    val_main_v9, val_main_v8, val_main_v7, val_main_v6, val_main_v5, val_main_v4, val_main_v3, val_main_v2,
    val_main_v1, val_main_v0, val_main_cst, val_main_cst_0, val_main_cst_1, projRow, rmsRow, rowMul, width, eps]

open Cert.RefGmlpInIdeal.Read in
/-- A row of the reference's array. -/
theorem ref_row (a : FVec Ideal S16384x1024 .f32) (g : FVec Ideal Cert.RefGmlpInIdeal.S1024 .f32)
    (w : FVec Ideal S1024x6144 .f32) (b : FVec Ideal Cert.RefGmlpInIdeal.S6144 .f32) (r : Fin 16384) (j : Fin 6144) :
    val_main_v30 (F := Ideal) a g w b (ix2 r j)
      = gelu (projRow (fun k => a (ix2 r k)) (fun k => g (ix1 k)) (fun k h => w (ix2 k h)) j + b (ix1 j)) := by
  rw [← ref_proj, ← gelu_eq]
  pointwise [val_main_v30, val_main_v29, val_main_v28, val_main_v27, val_main_v26, val_main_v25, val_main_v24,
    val_main_v23, val_main_v22, val_main_v21, val_main_v20, val_main_v19, val_main_v18, val_main_v17, val_main_cst_2,
    val_main_cst_3, val_main_cst_4, val_main_cst_5]

variable (m : (ℓ : Loc nD τ sig) → Buf (Elt Ideal) ℓ)

/-- The result array, as the reference's function of the kernel's arguments. -/
def G (c : Dev nD) : FVec Ideal S16384x6144 .bf16 :=
  Cert.RefGmlpInIdeal.Read.val_main_v30 (F := Ideal) (m ((c : Thread nD τ).loc main_arg0))
    (m ((c : Thread nD τ).loc main_arg1)) (m ((c : Thread nD τ).loc main_arg2)) (m ((c : Thread nD τ).loc main_arg3))

/-! The rows of the arrays that each grid point reads and writes. -/

theorem idx0 : ∀ t : Fin cfg0.N, win0_0.index t = ![(grid0.coords t 0).val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![(grid0.coords t 0).val, 0] := (by decide +kernel : ∀ t : Fin grid0.N, _)

/-- The array after the grid is the reference's. -/
theorem final (c : Dev nD) : (dats m 0 c).arrAt 4 cfg0.N = G m c := by
  refine (dats m 0 c).arrAt_eq_of_covers 4 _ (by decide +kernel) fun t hf y => ?_
  have he : ((View.whole main_v3).slice (win0_4.rect t)).emb y = ix2 (rowAt (grid0.coords t 0) (y 0)) (y 1) := by
    blk_ext [idx4, rowAt]
  have hy : y = ix2 (y 0) (y 1) := eq_ix2 y
  blk_simp
  rw [after0_4]; frame_out
  rw [he, hy]
  refine (block_row _ _ _ _ _ _).trans ((?_ : _ = _).trans (ref_row _ _ _ _ _ _).symm)
  blk_point [iblk, V, idx0, idx1, idx2, idx3, rowAt]

/-- The kernel and the reference leave the same array. -/
theorem claim : Cert.algebraic_GmlpInIdeal_RefGmlpInIdeal := by
  intro m g m' g' _ hagree
  refine ⟨G m, (θ_run _ _ _).mono (fun r h c => ⟨(h c).1.trans (final m c), (h c).2⟩) (Cert.GmlpInIdeal.Value.run_blocks m g),
    (θ_run _ _ _).mono (fun r h c => ⟨(h c).1.trans ?_, (h c).2⟩) (Cert.RefGmlpInIdeal.Value.run m' g')⟩
  obtain ⟨h0, h1, h2, h3⟩ := hagree c
  refine (Cert.RefGmlpInIdeal.Read.val_main_v30_eq (F := Ideal) m' c).trans ?_
  rw [h0, h1, h2, h3]
  rfl

end Cert.Trunk.GmlpIn

end
-- ==== Proof.GlaIn.lean ====
module

public import proofs.«01_k».proof.Defs
public import proofs.«01_k».proof.Proof.Gen.GlaInIdeal.Value
public import proofs.«01_k».proof.Proof.Gen.RefGlaInIdeal.Run
public import proofs.«01_k».proof.Proof.Gen.RefGlaInIdeal.Read
public import proofs.«01_k».proof.Proof.Rows
public import Idealize.ShloMosaic.Lib.Pointwise
public import Idealize.ShloMosaic.Lib.Claim
public import Idealize.ShloMosaic.Lib.Pipeline.ValueKit

@[expose] public section

noncomputable section

namespace Cert.Trunk.GlaIn

open Idealize.ShloMosaic Idealize.ShloMosaic.TcCoe Idealize.SL.Sem
open Cert.GlaInIdeal Cert.GlaInIdeal.Gen

/-- One row of the block that the kernel stores. -/
theorem block_row (a : FVec Ideal S512x1024 .f32) (g : FVec Ideal S1x1024 .f32) (w : FVec Ideal S1024x3072 .bf16)
    (r : Fin 512) (j : Fin 3072) :
    k0_pay1 (F := Ideal) a g w (ix2 r j) = projRow (fun k => a (ix2 r k)) (fun k => g (ix2 0 k)) (fun k h => w (ix2 k h)) j := by
  pointwise [k0_pay1, projRow, rmsRow, rowMul, width, eps]

open Cert.RefGlaInIdeal.Read in
/-- One row of the reference's result. -/
theorem ref_row (a : FVec Ideal S16384x1024 .f32) (g : FVec Ideal S1024 .f32) (w : FVec Ideal S1024x3072 .f32)
    (r : Fin 16384) (j : Fin 3072) :
    val_main_v13 (F := Ideal) a g w (ix2 r j) = projRow (fun k => a (ix2 r k)) (fun k => g (ix1 k)) (fun k h => w (ix2 k h)) j := by
  pointwise [val_main_v13, val_main_v12, val_main_v11, val_main_v10, val_main_v9, val_main_v8, val_main_v7, val_main_v6,
    val_main_v5, val_main_v4, val_main_v3, val_main_v2, val_main_v1, val_main_v0, val_main_cst, val_main_cst_0,
    val_main_cst_1, projRow, rmsRow, rowMul, width, eps]

variable (m : (ℓ : Loc nD τ sig) → Buf (Elt Ideal) ℓ)

/-- The reference's function of the arguments, which the result array is shown to hold. -/
def G (c : Dev nD) : FVec Ideal S16384x3072 .f32 :=
  Cert.RefGlaInIdeal.Read.val_main_v13 (F := Ideal) (m ((c : Thread nD τ).loc main_arg0))
    (m ((c : Thread nD τ).loc main_arg1)) (m ((c : Thread nD τ).loc main_arg2))

/-! The rows' window and the result's window move together, 512 rows to a grid point; the others hold their whole array. -/

/-! The rows of the arrays that each grid point reads and writes. -/

theorem idx0 : ∀ t : Fin cfg0.N, win0_0.index t = ![(grid0.coords t 0).val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![(grid0.coords t 0).val, 0] := (by decide +kernel : ∀ t : Fin grid0.N, _)

/-- The result array after the run is the reference's function of the arguments: block by block, row by row. -/
theorem final (c : Dev nD) : (dats m 0 c).arrAt 3 cfg0.N = G m c := by
  refine (dats m 0 c).arrAt_eq_of_covers 3 _ (by decide +kernel) fun t hf y => ?_
  have he : ((View.whole main_v2).slice (win0_3.rect t)).emb y = ix2 (rowAt (grid0.coords t 0) (y 0)) (y 1) := by blk_ext [idx3, rowAt]
  have hy : y = ix2 (y 0) (y 1) := eq_ix2 y
  blk_simp
  rw [after0_3]; frame_out
  rw [he, hy]
  refine (block_row _ _ _ _ _).trans ((?_ : _ = _).trans (ref_row _ _ _ _ _).symm)
  blk_point [iblk, V, idx0, idx1, idx2, rowAt]

/-- The kernel and the reference end with equal results. -/
theorem claim : Cert.algebraic_GlaInIdeal_RefGlaInIdeal := by
  intro m g m' g' _ hagree
  refine ⟨G m, (θ_run _ _ _).mono (fun r h c => ⟨(h c).1.trans (final m c), (h c).2⟩) (Cert.GlaInIdeal.Value.run_blocks m g),
    (θ_run _ _ _).mono (fun r h c => ⟨(h c).1.trans ?_, (h c).2⟩) (Cert.RefGlaInIdeal.Value.run m' g')⟩
  obtain ⟨h0, h1, h2⟩ := hagree c
  refine (Cert.RefGlaInIdeal.Read.val_main_v13_eq (F := Ideal) _ _ _).trans ?_
  rw [h0, h1, h2]
  rfl

end Cert.Trunk.GlaIn

end
-- ==== Proof.NsaProjRows.lean ====
module

public import proofs.«01_k».proof.Defs
public import proofs.«01_k».proof.Proof.Gen.NsaProjIdeal.Value
public import proofs.«01_k».proof.Proof.Gen.RefNsaProjIdeal.Run
public import proofs.«01_k».proof.Proof.Gen.RefNsaProjIdeal.Read
public import proofs.«01_k».proof.Proof.Rows
public import Idealize.ShloMosaic.Lib.Pointwise
public import Idealize.ShloMosaic.Lib.Claim
public import Idealize.ShloMosaic.Lib.Pipeline.ValueKit

@[expose] public section

noncomputable section

namespace Cert.Trunk.NsaProj

open Idealize.ShloMosaic Idealize.ShloMosaic.TcCoe Idealize.SL.Sem
open Cert.NsaProjIdeal Cert.NsaProjIdeal.Gen

/-- The eighth as the programs write it. -/
def eighth : EReal := Ideal.ofBits .f32 0x3E000000#32

theorem eighth_eq : eighth = (((1 : ℝ) / 8 : ℝ) : EReal) := by
  unfold eighth
  simp [Ideal.ofBits, Ideal.ieee, -EReal.coe_mul]; norm_num

theorem eighth_nonneg : 0 ≤ eighth := by
  rw [eighth_eq]; exact EReal.coe_nonneg.mpr (by norm_num)

theorem eighth_ne_top : eighth ≠ ⊤ := by
  rw [eighth_eq]; exact EReal.coe_ne_top _

/-- A row times a matrix whose entries are divided by eight is the product divided by eight. -/
theorem rowMul_eighth {n p : ℕ} (x : Fin n → EReal) (w : Fin n → Fin p → EReal) (j : Fin p) :
    rowMul x (fun k h => w k h * eighth) j = rowMul x w j * eighth := by
  unfold rowMul
  have key : ∀ s : Finset (Fin n), ∑ k ∈ s, x k * (w k j * eighth) = (∑ k ∈ s, x k * w k j) * eighth := by
    intro s
    induction s using Finset.induction_on with
    | empty => simp
    | insert a s ha ih =>
      rw [Finset.sum_insert ha, Finset.sum_insert ha, ih,
        EReal.right_distrib_of_nonneg_of_ne_top eighth_nonneg eighth_ne_top, mul_assoc]
  exact key _

/-- What the call stores beside a key: three copies of the key's position in its tile of 256, then zeros, for the row with
the number `w`. -/
def place (w : BitVec 32) (l : Fin 64) : EReal :=
  Scalar.select (IntOp.cmpi .slt (BitVec.ofNat 32 l.val) 3#32)
    (FloatOps.sitofp (F := Ideal) .f32
      (Scalar.select
        (IntOp.andi (IntOp.cmpi .ne (IntOp.cmpi .slt (w.srem 256#32) 0#32) 0#1) (IntOp.cmpi .ne (w.srem 256#32) 0#32))
        (IntOp.addi (w.srem 256#32) 256#32) (w.srem 256#32))) 0

/-- The divisor as the programs write it. -/
theorem divisor : Scalar.select (Scalar.cmpi .eq 256#32 0#32) 1#32 256#32 = 256#32 := by decide

theorem divisor_pos : IntOp.cmpi .slt 256#32 0#32 = 0#1 := by decide

theorem rem_unit (u : ArithUnit) (w : BitVec 32) : IntOp.remsi u w 256#32 = w.srem 256#32 :=
  IntOp.remsi_of_pos u (by decide)

theorem xor_zero (b : BitVec 1) : IntOp.xori b 0#1 = IntOp.cmpi .ne b 0#1 := by
  revert b; decide

/-- The number of row `r` of a block, as a 32-bit word. -/
theorem row_word (n r : ℕ) :
    IntOp.addi (Scalar.muli (BitVec.ofNat 32 n) 512#32) (BitVec.ofNat 32 r) = BitVec.ofNat 32 (n * 512 + r) := by
  show BitVec.ofNat 32 n * BitVec.ofNat 32 512 + BitVec.ofNat 32 r = _
  rw [← BitVec.ofNat_mul, ← BitVec.ofNat_add]

/-- The normalised rows of a block. -/
theorem block_xn (a : FVec Ideal S512x1024 .f32) (g : FVec Ideal S1x1024 .f32) (r : Fin 512) (k : Fin 1024) :
    k0_pay2 (F := Ideal) a g (ix2 r k) = rmsRow (fun k => a (ix2 r k)) (fun k => g (ix2 0 k)) k := by
  pointwise [k0_pay2, rmsRow, width, eps]

/-- The product with the weights of the queries and of the two sorts of keys. -/
theorem block_y (a : FVec Ideal S512x1024 .f32) (g : FVec Ideal S1x1024 .f32) (w : FVec Ideal S1024x1536 .bf16)
    (r : Fin 512) (j : Fin 1536) :
    k0_pay3 (F := Ideal) a g w (ix2 r j) = projRow (fun k => a (ix2 r k)) (fun k => g (ix2 0 k)) (fun k h => w (ix2 k h)) j := by
  pointwise [k0_pay3, block_xn, projRow, rowMul]

/-- The queries of a block. -/
theorem block_q (a : FVec Ideal S512x1024 .f32) (g : FVec Ideal S1x1024 .f32) (w : FVec Ideal S1024x1536 .bf16)
    (r : Fin 512) (j : Fin 1024) :
    k0_pay4 (F := Ideal) a g w (ix2 r j)
      = projRow (fun k => a (ix2 r k)) (fun k => g (ix2 0 k)) (fun k h => w (ix2 k h)) ⟨j.val, by omega⟩ := by
  pointwise [k0_pay4, block_y]

/-- The transposed product with the weights of the two sorts of values. -/
theorem block_vt (a : FVec Ideal S512x1024 .f32) (g : FVec Ideal S1x1024 .f32) (w : FVec Ideal S512x1024 .bf16)
    (j : Fin 512) (r : Fin 512) :
    k0_pay26 (F := Ideal) (k0_pay2 a g) w (ix2 j r)
      = projRow (fun k => a (ix2 r k)) (fun k => g (ix2 0 k)) (fun k h => w (ix2 h k)) j := by
  pointwise [k0_pay26, block_xn, projRow, rowMul]
  exact Finset.sum_congr rfl fun k _ => mul_comm _ _

theorem block_vs (a : FVec Ideal S512x1024 .f32) (g : FVec Ideal S1x1024 .f32) (w : FVec Ideal S512x1024 .bf16)
    (u : Fin 1) (j : Fin 256) (r : Fin 512) :
    k0_pay27 (F := Ideal) (k0_pay2 a g) w (ix3 u j r)
      = projRow (fun k => a (ix2 r k)) (fun k => g (ix2 0 k)) (fun k h => w (ix2 h k)) ⟨j.val, by omega⟩ := by
  pointwise [k0_pay27, block_vt]

theorem block_vw (a : FVec Ideal S512x1024 .f32) (g : FVec Ideal S1x1024 .f32) (w : FVec Ideal S512x1024 .bf16)
    (u : Fin 1) (j : Fin 256) (r : Fin 512) :
    k0_pay28 (F := Ideal) (k0_pay2 a g) w (ix3 u j r)
      = projRow (fun k => a (ix2 r k)) (fun k => g (ix2 0 k)) (fun k h => w (ix2 h k)) ⟨256 + j.val, by omega⟩ := by
  pointwise [k0_pay28, block_vt]

/-- The product with the weights of the rows to be compressed. -/
theorem block_c (a : FVec Ideal S512x1024 .f32) (g : FVec Ideal S1x1024 .f32) (w : FVec Ideal S1024x512 .bf16)
    (r : Fin 512) (j : Fin 512) :
    k0_pay29 (F := Ideal) (k0_pay2 a g) w (ix2 r j)
      = projRow (fun k => a (ix2 r k)) (fun k => g (ix2 0 k)) (fun k h => w (ix2 k h)) j := by
  pointwise [k0_pay29, block_xn, projRow, rowMul]

/-- The gates of a block. -/
theorem block_gt (a : FVec Ideal S512x1024 .f32) (g : FVec Ideal S1x1024 .f32) (w : FVec Ideal S48x1024 .bf16)
    (u : Fin 1) (j : Fin 48) (r : Fin 512) :
    k0_pay1 (F := Ideal) (k0_pay39 (k0_pay2 a g) w) (ix3 u j r)
      = Ideal.div 1 (1 + Ideal.exp (-projRow (fun k => a (ix2 r k)) (fun k => g (ix2 0 k)) (fun k h => w (ix2 h k)) j)) := by
  pointwise [k0_pay39, k0_pay1, block_xn, projRow, rowMul]
  rw [zero_sub]
  congr 4
  exact Finset.sum_congr rfl fun k _ => mul_comm _ _

/-- The positions stored beside the keys of a block. -/
theorem block_place (i : grid0.Coords) (r : Fin 512) (l : Fin 64) :
    k0_pay9 (F := Ideal) k0_pay5 (Scalar.select (Scalar.cmpi .eq 256#32 0#32) 1#32 256#32) (k0_pay6 i) (k0_pay7 i)
      (k0_pay8 i) (Scalar.cmpi .slt (Scalar.select (Scalar.cmpi .eq 256#32 0#32) 1#32 256#32) 0#32) (ix2 r l)
      = place (BitVec.ofNat 32 (rowAt (i 0) r).val) l := by
  pointwise [k0_pay9, k0_pay5, k0_pay6, k0_pay7, k0_pay8]
  rw [divisor, row_word, rem_unit, show Scalar.cmpi .slt 256#32 0#32 = 0#1 from divisor_pos, xor_zero]
  rfl

open Cert.RefNsaProjIdeal.Read in
/-- The reference's product. -/
theorem ref_proj (a : FVec Ideal S16384x1024 .f32) (g : FVec Ideal S1024 .f32) (w : FVec Ideal S1024x2608 .f32)
    (r : Fin 16384) (j : Fin 2608) :
    val_main_v13 (F := Ideal) a g w (ix2 r j) = projRow (fun k => a (ix2 r k)) (fun k => g (ix1 k)) (fun k h => w (ix2 k h)) j := by
  pointwise [val_main_v13, val_main_v12, val_main_v11, val_main_v10, val_main_v9, val_main_v8, val_main_v7, val_main_v6,
    val_main_v5, val_main_v4, val_main_v3, val_main_v2, val_main_v1, val_main_v0, val_main_cst, val_main_cst_0,
    val_main_cst_1, projRow, rmsRow, rowMul, width, eps]

open Cert.RefNsaProjIdeal.Read in
theorem ref_q (a : FVec Ideal S16384x1024 .f32) (g : FVec Ideal S1024 .f32) (w : FVec Ideal S1024x2608 .f32)
    (r : Fin 16384) (j : Fin 1024) :
    val_main_v41 (F := Ideal) a g w (ix2 r j)
      = projRow (fun k => a (ix2 r k)) (fun k => g (ix1 k)) (fun k h => w (ix2 k h)) ⟨j.val, by omega⟩ * eighth := by
  pointwise [val_main_v41, val_main_v16, val_main_v15, val_main_v14, val_main_cst_2, ref_proj, eighth]

open Cert.RefNsaProjIdeal.Read in
theorem ref_place (g : Fin 4) (r : Fin 16384) (j : Fin 64) :
    val_main_v40 (F := Ideal) (ix3 g r j) = place (BitVec.ofNat 32 r.val) j := by
  pointwise [val_main_v40, val_main_v39, val_main_v38, val_main_call1_v2, val_main_call1_v1, val_main_call1_v0, val_main_cst_6,
    val_main_v37, val_main_v36, val_main_call0_v14, val_main_call0_v13, val_main_call0_v12, val_main_call0_v11,
    val_main_call0_v10, val_main_call0_v9, val_main_call0_c_3, val_main_call0_v8, val_main_call0_v7, val_main_call0_c_2,
    val_main_call0_v6, val_main_call0_v5, val_main_call0_c_1, val_main_call0_v4, val_main_call0_v3, val_main_call0_v2,
    val_main_call0_c_0, val_main_call0_v1, val_main_call0_c, val_main_call0_v0, val_main_c_5, val_main_v35, val_main_v34,
    val_main_c, val_main_v33, val_main_v32, val_main_v31, val_main_v30, val_main_v29]
  rw [show Scalar.select (IntOp.cmpi .eq (id (constantI Cert.RefNsaProjIdeal.S_ 32 256#32) ix0) 0#32) 1#32
      (id (constantI Cert.RefNsaProjIdeal.S_ 32 256#32) ix0) = 256#32 from divisor, rem_unit, divisor_pos,
    show id (constant (F := Ideal) Cert.RefNsaProjIdeal.S_ FTy.f32 0#32) ix0 = (0 : EReal) from Ideal.ofBits_zero_f32]
  rfl

open Cert.RefNsaProjIdeal.Read in
theorem ref_ks (a : FVec Ideal S16384x1024 .f32) (g : FVec Ideal S1024 .f32) (w : FVec Ideal S1024x2608 .f32)
    (b : Fin 4) (r : Fin 16384) (l : Fin 128) :
    val_main_v45 (F := Ideal) a g w (ix3 b r l)
      = if h : l.val < 64 then
          projRow (fun k => a (ix2 r k)) (fun k => g (ix1 k)) (fun k h => w (ix2 k h)) ⟨1024 + (512 + b.val * 64 + l.val), by omega⟩
        else place (BitVec.ofNat 32 r.val) ⟨l.val - 64, by omega⟩ := by
  pointwise [val_main_v45, val_main_v44, ref_place, val_main_v43, val_main_v42, val_main_v19, val_main_v18, val_main_v17, ref_proj]

open Cert.RefNsaProjIdeal.Read in
theorem ref_kw (a : FVec Ideal S16384x1024 .f32) (g : FVec Ideal S1024 .f32) (w : FVec Ideal S1024x2608 .f32)
    (b : Fin 4) (r : Fin 16384) (l : Fin 128) :
    val_main_v49 (F := Ideal) a g w (ix3 b r l)
      = if h : l.val < 64 then
          projRow (fun k => a (ix2 r k)) (fun k => g (ix1 k)) (fun k h => w (ix2 k h)) ⟨1024 + (1024 + b.val * 64 + l.val), by omega⟩
        else place (BitVec.ofNat 32 r.val) ⟨l.val - 64, by omega⟩ := by
  pointwise [val_main_v49, val_main_v48, ref_place, val_main_v47, val_main_v46, val_main_v19, val_main_v18, val_main_v17, ref_proj]

/-- The row of position `s` of sequence `b`. -/
def seqRow (b : Fin 2) (s : Fin 8192) : Fin 16384 := ⟨b.val * 8192 + s.val, by omega⟩

open Cert.RefNsaProjIdeal.Read in
theorem ref_vs (a : FVec Ideal S16384x1024 .f32) (g : FVec Ideal S1024 .f32) (w : FVec Ideal S1024x2608 .f32)
    (b : Fin 2) (r : Fin 256) (j : Fin 8192) :
    val_main_v55 (F := Ideal) a g w (ix3 b r j)
      = projRow (fun k => a (ix2 (seqRow b j) k)) (fun k => g (ix1 k)) (fun k h => w (ix2 k h)) ⟨1792 + r.val, by omega⟩ := by
  pointwise [val_main_v55, val_main_v54, val_main_v53, val_main_v52, val_main_v51, val_main_v50, val_main_v19, val_main_v18,
    val_main_v17, ref_proj, seqRow]
  congr 2
  omega

open Cert.RefNsaProjIdeal.Read in
theorem ref_vw (a : FVec Ideal S16384x1024 .f32) (g : FVec Ideal S1024 .f32) (w : FVec Ideal S1024x2608 .f32)
    (b : Fin 2) (r : Fin 256) (j : Fin 8192) :
    val_main_v61 (F := Ideal) a g w (ix3 b r j)
      = projRow (fun k => a (ix2 (seqRow b j) k)) (fun k => g (ix1 k)) (fun k h => w (ix2 k h)) ⟨2304 + r.val, by omega⟩ := by
  pointwise [val_main_v61, val_main_v60, val_main_v59, val_main_v58, val_main_v57, val_main_v56, val_main_v19, val_main_v18,
    val_main_v17, ref_proj, seqRow]
  congr 2
  omega

open Cert.RefNsaProjIdeal.Read in
theorem ref_gt (a : FVec Ideal S16384x1024 .f32) (g : FVec Ideal S1024 .f32) (w : FVec Ideal S1024x2608 .f32)
    (b : Fin 2) (r : Fin 48) (j : Fin 8192) :
    val_main_v28 (F := Ideal) a g w (ix3 b r j)
      = Ideal.div 1 (1 + Ideal.exp (-projRow (fun k => a (ix2 (seqRow b j) k)) (fun k => g (ix1 k)) (fun k h => w (ix2 k h))
          ⟨2560 + r.val, by omega⟩)) := by
  pointwise [val_main_v28, val_main_v27, val_main_v26, val_main_v25, val_main_v24, val_main_v23, val_main_v22, val_main_v21,
    val_main_v20, val_main_cst_3, val_main_cst_4, ref_proj, seqRow]

open Cert.RefNsaProjIdeal.Read in
theorem ref_c (a : FVec Ideal S16384x1024 .f32) (g : FVec Ideal S1024 .f32) (w : FVec Ideal S1024x2608 .f32)
    (b : Fin 8) (r : Fin 16384) (j : Fin 64) :
    val_main_v63 (F := Ideal) a g w (ix3 b r j)
      = projRow (fun k => a (ix2 r k)) (fun k => g (ix1 k)) (fun k h => w (ix2 k h)) ⟨1024 + (b.val * 64 + j.val), by omega⟩ := by
  pointwise [val_main_v63, val_main_v62, val_main_v19, val_main_v18, val_main_v17, ref_proj]
  congr 2
  omega

end Cert.Trunk.NsaProj

end
-- ==== Proof.NsaProjOut.lean ====
/- The arrays that a grid point of the sparse attention's projection writes, each entry from the blocks that it reads. -/
module

public import proofs.«01_k».proof.Defs
public import proofs.«01_k».proof.Proof.Gen.NsaProjIdeal.Value
public import proofs.«01_k».proof.Proof.Rows
public import proofs.«01_k».proof.Proof.NsaProjRows
public import Idealize.ShloMosaic.Lib.Pointwise
public import Idealize.ShloMosaic.Lib.Claim
public import Idealize.ShloMosaic.Lib.Pipeline.ValueKit

@[expose] public section

noncomputable section

namespace Cert.Trunk.NsaProj

open Idealize.ShloMosaic Idealize.ShloMosaic.TcCoe Idealize.SL.Sem
open Cert.NsaProjIdeal Cert.NsaProjIdeal.Gen

theorem zero2 : (![0, 0] : Fin 2 → ℕ) = fun _ => 0 := by decide

theorem ld_h (x : Vec Ideal S512x1024 .f32) : View.ld (Val := Elt Ideal) (e' := .f32) (S := S512x1024) x r0_0 = x :=
  View.ld_unit_zero (S := S512x1024) (e := .f32) (Val := Elt Ideal) zero2 inb_S512x1024_S512x1024_0_0 x
theorem ld_g (x : Vec Ideal S1x1024 .f32) : View.ld (Val := Elt Ideal) (e' := .f32) (S := S1x1024) x r0_1 = x :=
  View.ld_unit_zero (S := S1x1024) (e := .f32) (Val := Elt Ideal) zero2 inb_S1x1024_S1x1024_0_0 x
theorem ld_qk (x : Vec Ideal S1024x1536 .bf16) : View.ld (Val := Elt Ideal) (e' := .bf16) (S := S1024x1536) x r0_2 = x :=
  View.ld_unit_zero (S := S1024x1536) (e := .bf16) (Val := Elt Ideal) zero2 inb_S1024x1536_S1024x1536_0_0 x
theorem ld_vt (x : Vec Ideal S512x1024 .bf16) : View.ld (Val := Elt Ideal) (e' := .bf16) (S := S512x1024) x r0_0 = x :=
  View.ld_unit_zero (S := S512x1024) (e := .bf16) (Val := Elt Ideal) zero2 inb_S512x1024_S512x1024_0_0 x
theorem ld_c (x : Vec Ideal S1024x512 .bf16) : View.ld (Val := Elt Ideal) (e' := .bf16) (S := S1024x512) x r0_12 = x :=
  View.ld_unit_zero (S := S1024x512) (e := .bf16) (Val := Elt Ideal) zero2 inb_S1024x512_S1024x512_0_0 x
theorem ld_gt (x : Vec Ideal S48x1024 .bf16) : View.ld (Val := Elt Ideal) (e' := .bf16) (S := S48x1024) x r0_21 = x :=
  View.ld_unit_zero (S := S48x1024) (e := .bf16) (Val := Elt Ideal) zero2 inb_S48x1024_S48x1024_0_0 x

variable (i : grid0.Coords) (x0 : FVec Ideal S512x1024 .f32) (x1 : FVec Ideal S1x1024 .f32) (x2 : FVec Ideal S1024x1536 .bf16)
  (x3 : FVec Ideal S512x1024 .bf16) (x4 : FVec Ideal S1024x512 .bf16) (x5 : FVec Ideal S48x1024 .bf16)

/-- The keys of the selection with their positions. -/
theorem out_ks (b : Fin 4) (r : Fin 512) (l : Fin 128) :
    out0_7 (F := Ideal) i x0 x1 x2 x3 x4 x5 (ix3 b r l)
      = if h : l.val < 64 then
          projRow (fun k => x0 (ix2 r k)) (fun k => x1 (ix2 0 k)) (fun k h => x2 (ix2 k h)) ⟨1024 + (b.val * 64 + l.val), by omega⟩
        else place (BitVec.ofNat 32 (rowAt (i 0) r).val) ⟨l.val - 64, by omega⟩ := by
  unfold_out out0_7
  rw [ld_h, ld_g, ld_qk]
  canon_tiles x h
  all_goals
    obtain ⟨u, s, k, rfl⟩ : ∃ (u : Fin 1) (s : Fin 512) (k : Fin 64), x = ix3 u s k := ⟨_, _, _, eq_ix3 x⟩
    simp only [ix3_0, ix3_1, ix3_2] at h0 h1 h2
    obtain rfl : r = s := Fin.ext h1
    have hu : u.val = 0 := Nat.lt_one_iff.mp u.isLt
    have hk : k.val < 64 := k.isLt
    clear x0_lt x1_lt x2_lt
    pointwise [k0_pay10, k0_pay11, k0_pay14, k0_pay15, k0_pay18, k0_pay19, k0_pay22, k0_pay23, block_y, block_place]
    split
    · first | omega | exact congrArg (projRow _ _ _) (Fin.ext (by first | omega | (simp only; omega)))
    · first | omega | exact congrArg (place _) (Fin.ext (by first | omega | (simp only; omega)))

/-- The keys of the window with their positions. -/
theorem out_kw (b : Fin 4) (r : Fin 512) (l : Fin 128) :
    out0_8 (F := Ideal) i x0 x1 x2 x3 x4 x5 (ix3 b r l)
      = if h : l.val < 64 then
          projRow (fun k => x0 (ix2 r k)) (fun k => x1 (ix2 0 k)) (fun k h => x2 (ix2 k h)) ⟨1280 + (b.val * 64 + l.val), by omega⟩
        else place (BitVec.ofNat 32 (rowAt (i 0) r).val) ⟨l.val - 64, by omega⟩ := by
  unfold_out out0_8
  rw [ld_h, ld_g, ld_qk]
  canon_tiles x h
  all_goals
    obtain ⟨u, s, k, rfl⟩ : ∃ (u : Fin 1) (s : Fin 512) (k : Fin 64), x = ix3 u s k := ⟨_, _, _, eq_ix3 x⟩
    simp only [ix3_0, ix3_1, ix3_2] at h0 h1 h2
    obtain rfl : r = s := Fin.ext h1
    have hu : u.val = 0 := Nat.lt_one_iff.mp u.isLt
    have hk : k.val < 64 := k.isLt
    clear x0_lt x1_lt x2_lt
    pointwise [k0_pay12, k0_pay13, k0_pay16, k0_pay17, k0_pay20, k0_pay21, k0_pay24, k0_pay25, block_y, block_place]
    split
    · first | omega | exact congrArg (projRow _ _ _) (Fin.ext (by first | omega | (simp only; omega)))
    · first | omega | exact congrArg (place _) (Fin.ext (by first | omega | (simp only; omega)))

/-- The rows to be compressed. -/
theorem out_c (b : Fin 8) (r : Fin 512) (j : Fin 64) :
    out0_11 (F := Ideal) i x0 x1 x2 x3 x4 x5 (ix3 b r j)
      = projRow (fun k => x0 (ix2 r k)) (fun k => x1 (ix2 0 k)) (fun k h => x4 (ix2 k h)) ⟨b.val * 64 + j.val, by omega⟩ := by
  unfold_out out0_11
  rw [ld_h, ld_g, ld_c]
  canon_tiles x h
  all_goals
    obtain ⟨u, s, k, rfl⟩ : ∃ (u : Fin 1) (s : Fin 512) (k : Fin 64), x = ix3 u s k := ⟨_, _, _, eq_ix3 x⟩
    simp only [ix3_0, ix3_1, ix3_2] at h0 h1 h2
    obtain rfl : r = s := Fin.ext h1
    have hu : u.val = 0 := Nat.lt_one_iff.mp u.isLt
    have hk : k.val < 64 := k.isLt
    clear x0_lt x1_lt x2_lt
    pointwise [k0_pay30, k0_pay31, k0_pay32, k0_pay33, k0_pay34, k0_pay35, k0_pay36, k0_pay37, k0_pay38, block_c]
    exact congrArg (projRow _ _ _) (Fin.ext (by first | omega | (simp only; omega)))

theorem zero3 : (![0, 0, 0] : Fin 3 → ℕ) = fun _ => 0 := by decide

/-- The queries. -/
theorem out_q (r : Fin 512) (j : Fin 1024) :
    out0_6 (F := Ideal) i x0 x1 x2 x3 x4 x5 (ix2 r j)
      = projRow (fun k => x0 (ix2 r k)) (fun k => x1 (ix2 0 k)) (fun k h => x2 (ix2 k h)) ⟨j.val, by omega⟩ := by
  unfold_out out0_6
  rw [ld_h, ld_g, ld_qk]
  exact (congrFun (View.canon_cons_unit_zero zero2 _ _ _) _).trans (block_q _ _ _ _ _)

/-- The values of the selection. -/
theorem out_vs (u : Fin 1) (j : Fin 256) (r : Fin 512) :
    out0_9 (F := Ideal) i x0 x1 x2 x3 x4 x5 (ix3 u j r)
      = projRow (fun k => x0 (ix2 r k)) (fun k => x1 (ix2 0 k)) (fun k h => x3 (ix2 h k)) ⟨j.val, by omega⟩ := by
  unfold_out out0_9
  rw [ld_h, ld_g, ld_vt]
  exact (congrFun (View.canon_cons_unit_zero zero3 _ _ _) _).trans (block_vs _ _ _ _ _ _)

/-- The values of the window. -/
theorem out_vw (u : Fin 1) (j : Fin 256) (r : Fin 512) :
    out0_10 (F := Ideal) i x0 x1 x2 x3 x4 x5 (ix3 u j r)
      = projRow (fun k => x0 (ix2 r k)) (fun k => x1 (ix2 0 k)) (fun k h => x3 (ix2 h k)) ⟨256 + j.val, by omega⟩ := by
  unfold_out out0_10
  rw [ld_h, ld_g, ld_vt]
  exact (congrFun (View.canon_cons_unit_zero zero3 _ _ _) _).trans (block_vw _ _ _ _ _ _)

/-- The gates. -/
theorem out_gt (u : Fin 1) (j : Fin 48) (r : Fin 512) :
    out0_12 (F := Ideal) i x0 x1 x2 x3 x4 x5 (ix3 u j r)
      = Ideal.div 1 (1 + Ideal.exp (-projRow (fun k => x0 (ix2 r k)) (fun k => x1 (ix2 0 k)) (fun k h => x5 (ix2 h k)) j)) := by
  unfold_out out0_12
  rw [ld_h, ld_g, ld_gt]
  exact (congrFun (View.canon_cons_unit_zero zero3 _ _ _) _).trans (block_gt _ _ _ _ _ _)

end Cert.Trunk.NsaProj

end
-- ==== Proof.NsaProj.lean ====
/- The sparse attention's projection: what the kernel leaves in its seven results is what the reference computes. -/
module

public import proofs.«01_k».proof.Defs
public import proofs.«01_k».proof.Proof.Gen.NsaProjIdeal.Value
public import proofs.«01_k».proof.Proof.Gen.RefNsaProjIdeal.Run
public import proofs.«01_k».proof.Proof.Gen.RefNsaProjIdeal.Read
public import proofs.«01_k».proof.Proof.Rows
public import proofs.«01_k».proof.Proof.NsaProjRows
public import proofs.«01_k».proof.Proof.NsaProjOut
public import Idealize.ShloMosaic.Lib.Pointwise
public import Idealize.ShloMosaic.Lib.Claim
public import Idealize.ShloMosaic.Lib.Pipeline.ValueKit

@[expose] public section

noncomputable section

namespace Cert.Trunk.NsaProj

open Idealize.ShloMosaic Idealize.ShloMosaic.TcCoe Idealize.SL.Sem
open Cert.NsaProjIdeal Cert.NsaProjIdeal.Gen

variable (m : (ℓ : Loc nD τ sig) → Buf (Elt Ideal) ℓ)

theorem idx0 : ∀ t : Fin cfg0.N, win0_0.index t = ![(grid0.coords t 0).val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![(grid0.coords t 0).val, 0] := (by decide +kernel : ∀ t : Fin grid0.N, _)
theorem idx7 : ∀ t : Fin cfg0.N, win0_7.index t = ![0, (grid0.coords t 0).val, 0] := (by decide +kernel : ∀ t : Fin grid0.N, _)
theorem idx8 : ∀ t : Fin cfg0.N, win0_8.index t = ![0, (grid0.coords t 0).val, 0] := (by decide +kernel : ∀ t : Fin grid0.N, _)
theorem idx9 : ∀ t : Fin cfg0.N, win0_9.index t = ![(grid0.coords t 0).val / 16, 0, (grid0.coords t 0).val % 16] :=
  (by decide +kernel : ∀ t : Fin grid0.N, _)
theorem idx10 : ∀ t : Fin cfg0.N, win0_10.index t = ![(grid0.coords t 0).val / 16, 0, (grid0.coords t 0).val % 16] :=
  (by decide +kernel : ∀ t : Fin grid0.N, _)
theorem idx11 : ∀ t : Fin cfg0.N, win0_11.index t = ![0, (grid0.coords t 0).val, 0] := (by decide +kernel : ∀ t : Fin grid0.N, _)
theorem idx12 : ∀ t : Fin cfg0.N, win0_12.index t = ![(grid0.coords t 0).val / 16, 0, (grid0.coords t 0).val % 16] :=
  (by decide +kernel : ∀ t : Fin grid0.N, _)

/-- The result arrays are to hold the reference's functions of these arguments. -/
abbrev argH (c : Dev nD) : FVec Ideal S16384x1024 .f32 := m ((c : Thread nD τ).loc main_arg0)
abbrev argG (c : Dev nD) : FVec Ideal S1024 .f32 := m ((c : Thread nD τ).loc main_arg1)
abbrev argW (c : Dev nD) : FVec Ideal S1024x2608 .f32 := m ((c : Thread nD τ).loc main_arg2)

/-- The rows that a grid point reads. -/
theorem at_h (c : Dev nD) (t : Fin cfg0.N) (r : Fin 512) (k : Fin 1024) :
    (iblk m c 0 t : FVec Ideal S512x1024 .f32) (ix2 r k) = argH m c (ix2 (rowAt (grid0.coords t 0) r) k) := by
  blk_point [iblk, V, idx0, rowAt]

theorem at_g (c : Dev nD) (t : Fin cfg0.N) (k : Fin 1024) :
    (iblk m c 1 t : FVec Ideal S1x1024 .f32) (ix2 0 k) = argG m c (ix1 k) := by
  blk_point [iblk, V, idx1]

/-- The weights of queries, selection keys and window keys as the host prepared them. -/
theorem V_qk_eq (c : Dev nD) : (V m c main_v6 : FVec Ideal S1024x1536 .bf16)
    = truncf .bf16 (concatenate S1024x1536 1
        [⟨S1024x1024, mulf (extractStridedSlice S1024x1024 ![0, 0] (argW m c) slices_S1024x2608_S1024x1024_0_0)
            (broadcastInDim S1024x1024 ![] bcast_S_S1024x1024 (constant S_ .f32 0x3E000000#32))⟩,
          ⟨S1024x256, extractStridedSlice S1024x256 ![0, 1536] (argW m c) slices_S1024x2608_S1024x256_0_1536⟩,
          ⟨S1024x256, extractStridedSlice S1024x256 ![0, 2048] (argW m c) slices_S1024x2608_S1024x256_0_2048⟩]
        concatenates_S1024x1024_S1024x256_S1024x256_S1024x1536_d1) bitsLt_bf16_f32 := rfl

theorem V_qk (c : Dev nD) (k : Fin 1024) (j : Fin 1536) :
    (V m c main_v6 : FVec Ideal S1024x1536 .bf16) (ix2 k j)
      = if h : j.val < 1024 then argW m c (ix2 k ⟨j.val, by omega⟩) * eighth
        else if h : j.val - 1024 < 256 then argW m c (ix2 k ⟨1536 + (j.val - 1024), by omega⟩)
        else argW m c (ix2 k ⟨2048 + (j.val - 1024 - 256), by omega⟩) := by
  rw [V_qk_eq]
  pointwise [eighth]

theorem at_qk (c : Dev nD) (t : Fin cfg0.N) (k : Fin 1024) (j : Fin 1536) :
    (iblk m c 2 t : FVec Ideal S1024x1536 .bf16) (ix2 k j)
      = if h : j.val < 1024 then argW m c (ix2 k ⟨j.val, by omega⟩) * eighth
        else if h : j.val - 1024 < 256 then argW m c (ix2 k ⟨1536 + (j.val - 1024), by omega⟩)
        else argW m c (ix2 k ⟨2048 + (j.val - 1024 - 256), by omega⟩) := by
  have he : (win0_2.blk t).view.emb (ix2 k j) = ix2 k j := by blk_ext [idx2]
  exact (congrArg (V m c main_v6) he).trans (V_qk m c k j)

theorem V_vt (c : Dev nD) (k : Fin 1024) (j : Fin 512) :
    (V m c main_v11 : FVec Ideal S512x1024 .bf16) (ix2 j k)
      = if h : j.val < 256 then argW m c (ix2 k ⟨1792 + j.val, by omega⟩)
        else argW m c (ix2 k ⟨2304 + (j.val - 256), by omega⟩) := by
  entry_read
  pointwise

theorem at_vt (c : Dev nD) (t : Fin cfg0.N) (k : Fin 1024) (j : Fin 512) :
    (iblk m c 3 t : FVec Ideal S512x1024 .bf16) (ix2 j k)
      = if h : j.val < 256 then argW m c (ix2 k ⟨1792 + j.val, by omega⟩)
        else argW m c (ix2 k ⟨2304 + (j.val - 256), by omega⟩) := by
  have he : (win0_3.blk t).view.emb (ix2 j k) = ix2 j k := by blk_ext [idx3]
  exact (congrArg (V m c main_v11) he).trans (V_vt m c k j)

theorem at_c (c : Dev nD) (t : Fin cfg0.N) (k : Fin 1024) (j : Fin 512) :
    (iblk m c 4 t : FVec Ideal S1024x512 .bf16) (ix2 k j) = argW m c (ix2 k ⟨1024 + j.val, by omega⟩) := by
  blk_point [iblk, V, idx4]

theorem at_gt (c : Dev nD) (t : Fin cfg0.N) (k : Fin 1024) (j : Fin 48) :
    (iblk m c 5 t : FVec Ideal S48x1024 .bf16) (ix2 j k) = argW m c (ix2 k ⟨2560 + j.val, by omega⟩) := by
  blk_point [iblk, V, idx5]

/-- Two projections with equal rows, gains and columns. -/
theorem projRow_congr {p q : ℕ} {y y' g g' : Fin 1024 → EReal} {w : Fin 1024 → Fin p → EReal} {w' : Fin 1024 → Fin q → EReal}
    {j : Fin p} {j' : Fin q} (hy : ∀ k, y k = y' k) (hg : ∀ k, g k = g' k) (hw : ∀ k, w k j = w' k j') :
    projRow y g w j = projRow y' g' w' j' := by
  obtain rfl : y = y' := funext hy
  obtain rfl : g = g' := funext hg
  unfold projRow rowMul
  exact Finset.sum_congr rfl fun k _ => congrArg (rmsRow y g k * ·) (hw k)

/-- The sequence that a grid point's rows lie in. -/
def blkSeq (t : Fin cfg0.N) : Fin 2 :=
  ⟨(grid0.coords t 0).val / 16, by have := (grid0.coords t 0).isLt; change _ < 32 at this; omega⟩

/-- The position in its sequence of a grid point's row. -/
def blkPos (t : Fin cfg0.N) (r : Fin 512) : Fin 8192 := ⟨(grid0.coords t 0).val % 16 * 512 + r.val, by omega⟩

theorem seqRow_blk (t : Fin cfg0.N) (r : Fin 512) : seqRow (blkSeq t) (blkPos t r) = rowAt (grid0.coords t 0) r :=
  Fin.ext (by show (grid0.coords t 0).val / 16 * 8192 + ((grid0.coords t 0).val % 16 * 512 + r.val)
    = (grid0.coords t 0).val * 512 + r.val; omega)

/-- The queries of a grid point are the reference's. -/
theorem row_q (c : Dev nD) (t : Fin cfg0.N) (r : Fin 512) (j : Fin 1024) :
    out0_6 (F := Ideal) (grid0.coords t) (iblk m c 0 t) (iblk m c 1 t) (iblk m c 2 t) (iblk m c 3 t)
        (iblk m c 4 t) (iblk m c 5 t) (ix2 r j)
      = Cert.RefNsaProjIdeal.Read.val_main_v41 (F := Ideal) (argH m c) (argG m c) (argW m c) (ix2 (rowAt (grid0.coords t 0) r) j) := by
  refine (out_q _ _ _ _ _ _ _ _ _).trans (Eq.trans ?_ (ref_q _ _ _ _ _).symm)
  rw [projRow, projRow, ← rowMul_eighth]
  refine projRow_congr (fun k => at_h m c t r k) (fun k => at_g m c t k) (fun k => ?_)
  exact (at_qk m c t k _).trans (dif_pos j.isLt)

/-- The selection keys of a grid point and the positions beside them. -/
theorem row_ks (c : Dev nD) (t : Fin cfg0.N) (b : Fin 4) (r : Fin 512) (l : Fin 128) :
    out0_7 (F := Ideal) (grid0.coords t) (iblk m c 0 t) (iblk m c 1 t) (iblk m c 2 t) (iblk m c 3 t)
        (iblk m c 4 t) (iblk m c 5 t) (ix3 b r l)
      = Cert.RefNsaProjIdeal.Read.val_main_v45 (F := Ideal) (argH m c) (argG m c) (argW m c) (ix3 b (rowAt (grid0.coords t 0) r) l) := by
  refine (out_ks _ _ _ _ _ _ _ _ _ _).trans (Eq.trans ?_ (ref_ks _ _ _ _ _ _).symm)
  refine dite_congr rfl (fun h => ?_) (fun h => rfl)
  have hl : l.val < 64 := h
  refine projRow_congr (fun k => at_h m c t r k) (fun k => at_g m c t k) (fun k => ?_)
  refine (at_qk m c t k _).trans ((dif_neg (by simp only; omega)).trans ((dif_pos (by simp only; omega)).trans ?_))
  exact congrArg (fun j => argW m c (ix2 k j)) (Fin.ext (by simp only; omega))

/-- The window keys of a grid point and the positions beside them. -/
theorem row_kw (c : Dev nD) (t : Fin cfg0.N) (b : Fin 4) (r : Fin 512) (l : Fin 128) :
    out0_8 (F := Ideal) (grid0.coords t) (iblk m c 0 t) (iblk m c 1 t) (iblk m c 2 t) (iblk m c 3 t)
        (iblk m c 4 t) (iblk m c 5 t) (ix3 b r l)
      = Cert.RefNsaProjIdeal.Read.val_main_v49 (F := Ideal) (argH m c) (argG m c) (argW m c) (ix3 b (rowAt (grid0.coords t 0) r) l) := by
  refine (out_kw _ _ _ _ _ _ _ _ _ _).trans (Eq.trans ?_ (ref_kw _ _ _ _ _ _).symm)
  refine dite_congr rfl (fun h => ?_) (fun h => rfl)
  have hl : l.val < 64 := h
  refine projRow_congr (fun k => at_h m c t r k) (fun k => at_g m c t k) (fun k => ?_)
  refine (at_qk m c t k _).trans ((dif_neg (by simp only; omega)).trans ((dif_neg (by simp only; omega)).trans ?_))
  exact congrArg (fun j => argW m c (ix2 k j)) (Fin.ext (by simp only; omega))

/-- The selection values of a grid point. -/
theorem row_vs (c : Dev nD) (t : Fin cfg0.N) (u : Fin 1) (j : Fin 256) (r : Fin 512) :
    out0_9 (F := Ideal) (grid0.coords t) (iblk m c 0 t) (iblk m c 1 t) (iblk m c 2 t) (iblk m c 3 t)
        (iblk m c 4 t) (iblk m c 5 t) (ix3 u j r)
      = Cert.RefNsaProjIdeal.Read.val_main_v55 (F := Ideal) (argH m c) (argG m c) (argW m c) (ix3 (blkSeq t) j (blkPos t r)) := by
  refine (out_vs _ _ _ _ _ _ _ _ _ _).trans (Eq.trans ?_ (ref_vs _ _ _ _ _ _).symm)
  rw [seqRow_blk]
  refine projRow_congr (fun k => at_h m c t r k) (fun k => at_g m c t k) (fun k => ?_)
  exact (at_vt m c t k _).trans (dif_pos j.isLt)

/-- The window values of a grid point. -/
theorem row_vw (c : Dev nD) (t : Fin cfg0.N) (u : Fin 1) (j : Fin 256) (r : Fin 512) :
    out0_10 (F := Ideal) (grid0.coords t) (iblk m c 0 t) (iblk m c 1 t) (iblk m c 2 t) (iblk m c 3 t)
        (iblk m c 4 t) (iblk m c 5 t) (ix3 u j r)
      = Cert.RefNsaProjIdeal.Read.val_main_v61 (F := Ideal) (argH m c) (argG m c) (argW m c) (ix3 (blkSeq t) j (blkPos t r)) := by
  refine (out_vw _ _ _ _ _ _ _ _ _ _).trans (Eq.trans ?_ (ref_vw _ _ _ _ _ _).symm)
  rw [seqRow_blk]
  refine projRow_congr (fun k => at_h m c t r k) (fun k => at_g m c t k) (fun k => ?_)
  refine (at_vt m c t k _).trans ((dif_neg (by simp only; omega)).trans ?_)
  exact congrArg (fun j => argW m c (ix2 k j)) (Fin.ext (by simp only; omega))

/-- The rows to be compressed of a grid point. -/
theorem row_c (c : Dev nD) (t : Fin cfg0.N) (b : Fin 8) (r : Fin 512) (j : Fin 64) :
    out0_11 (F := Ideal) (grid0.coords t) (iblk m c 0 t) (iblk m c 1 t) (iblk m c 2 t) (iblk m c 3 t)
        (iblk m c 4 t) (iblk m c 5 t) (ix3 b r j)
      = Cert.RefNsaProjIdeal.Read.val_main_v63 (F := Ideal) (argH m c) (argG m c) (argW m c) (ix3 b (rowAt (grid0.coords t 0) r) j) := by
  refine (out_c _ _ _ _ _ _ _ _ _ _).trans (Eq.trans ?_ (ref_c _ _ _ _ _ _).symm)
  refine projRow_congr (fun k => at_h m c t r k) (fun k => at_g m c t k) (fun k => ?_)
  exact at_c m c t k _

/-- The gates of a grid point. -/
theorem row_gt (c : Dev nD) (t : Fin cfg0.N) (u : Fin 1) (j : Fin 48) (r : Fin 512) :
    out0_12 (F := Ideal) (grid0.coords t) (iblk m c 0 t) (iblk m c 1 t) (iblk m c 2 t) (iblk m c 3 t)
        (iblk m c 4 t) (iblk m c 5 t) (ix3 u j r)
      = Cert.RefNsaProjIdeal.Read.val_main_v28 (F := Ideal) (argH m c) (argG m c) (argW m c) (ix3 (blkSeq t) j (blkPos t r)) := by
  refine (out_gt _ _ _ _ _ _ _ _ _ _).trans (Eq.trans ?_ (ref_gt _ _ _ _ _ _).symm)
  rw [seqRow_blk]
  refine congrArg (fun z => Ideal.div 1 (1 + Ideal.exp (-z))) ?_
  refine projRow_congr (fun k => at_h m c t r k) (fun k => at_g m c t k) (fun k => ?_)
  exact at_gt m c t k j

theorem final_q (c : Dev nD) : (dats m 0 c).arrAt 6 cfg0.N
    = Cert.RefNsaProjIdeal.Read.val_main_v41 (F := Ideal) (argH m c) (argG m c) (argW m c) := by
  refine (dats m 0 c).arrAt_eq_of_covers 6 _ (by decide +kernel) fun t hf y => ?_
  have he : ((View.whole main_v18_0).slice (win0_6.rect t)).emb y = ix2 (rowAt (grid0.coords t 0) (y 0)) (y 1) := by
    blk_ext [idx6, rowAt]
  have hy : y = ix2 (y 0) (y 1) := eq_ix2 y
  blk_simp
  rw [after0_6, he, hy]
  exact row_q m c t _ _

theorem final_ks (c : Dev nD) : (dats m 0 c).arrAt 7 cfg0.N
    = Cert.RefNsaProjIdeal.Read.val_main_v45 (F := Ideal) (argH m c) (argG m c) (argW m c) := by
  refine (dats m 0 c).arrAt_eq_of_covers 7 _ (by decide +kernel) fun t hf y => ?_
  have he : ((View.whole main_v18_1).slice (win0_7.rect t)).emb y = ix3 (y 0) (rowAt (grid0.coords t 0) (y 1)) (y 2) := by
    blk_ext [idx7, rowAt]
  have hy : y = ix3 (y 0) (y 1) (y 2) := eq_ix3 y
  blk_simp
  rw [after0_7, he, hy]
  exact row_ks m c t _ _ _

theorem final_kw (c : Dev nD) : (dats m 0 c).arrAt 8 cfg0.N
    = Cert.RefNsaProjIdeal.Read.val_main_v49 (F := Ideal) (argH m c) (argG m c) (argW m c) := by
  refine (dats m 0 c).arrAt_eq_of_covers 8 _ (by decide +kernel) fun t hf y => ?_
  have he : ((View.whole main_v18_2).slice (win0_8.rect t)).emb y = ix3 (y 0) (rowAt (grid0.coords t 0) (y 1)) (y 2) := by
    blk_ext [idx8, rowAt]
  have hy : y = ix3 (y 0) (y 1) (y 2) := eq_ix3 y
  blk_simp
  rw [after0_8, he, hy]
  exact row_kw m c t _ _ _

theorem final_vs (c : Dev nD) : (dats m 0 c).arrAt 9 cfg0.N
    = Cert.RefNsaProjIdeal.Read.val_main_v55 (F := Ideal) (argH m c) (argG m c) (argW m c) := by
  refine (dats m 0 c).arrAt_eq_of_covers 9 _ (by decide +kernel) fun t hf y => ?_
  have he : ((View.whole main_v18_3).slice (win0_9.rect t)).emb y = ix3 (blkSeq t) (y 1) (blkPos t (y 2)) := by
    blk_ext [idx9, blkSeq, blkPos]
  have hy : y = ix3 (y 0) (y 1) (y 2) := eq_ix3 y
  blk_simp
  rw [after0_9, he, hy]
  exact row_vs m c t _ _ _

theorem final_vw (c : Dev nD) : (dats m 0 c).arrAt 10 cfg0.N
    = Cert.RefNsaProjIdeal.Read.val_main_v61 (F := Ideal) (argH m c) (argG m c) (argW m c) := by
  refine (dats m 0 c).arrAt_eq_of_covers 10 _ (by decide +kernel) fun t hf y => ?_
  have he : ((View.whole main_v18_4).slice (win0_10.rect t)).emb y = ix3 (blkSeq t) (y 1) (blkPos t (y 2)) := by
    blk_ext [idx10, blkSeq, blkPos]
  have hy : y = ix3 (y 0) (y 1) (y 2) := eq_ix3 y
  blk_simp
  rw [after0_10, he, hy]
  exact row_vw m c t _ _ _

theorem final_c (c : Dev nD) : (dats m 0 c).arrAt 11 cfg0.N
    = Cert.RefNsaProjIdeal.Read.val_main_v63 (F := Ideal) (argH m c) (argG m c) (argW m c) := by
  refine (dats m 0 c).arrAt_eq_of_covers 11 _ (by decide +kernel) fun t hf y => ?_
  have he : ((View.whole main_v18_5).slice (win0_11.rect t)).emb y = ix3 (y 0) (rowAt (grid0.coords t 0) (y 1)) (y 2) := by
    blk_ext [idx11, rowAt]
  have hy : y = ix3 (y 0) (y 1) (y 2) := eq_ix3 y
  blk_simp
  rw [after0_11, he, hy]
  exact row_c m c t _ _ _

theorem final_gt (c : Dev nD) : (dats m 0 c).arrAt 12 cfg0.N
    = Cert.RefNsaProjIdeal.Read.val_main_v28 (F := Ideal) (argH m c) (argG m c) (argW m c) := by
  refine (dats m 0 c).arrAt_eq_of_covers 12 _ (by decide +kernel) fun t hf y => ?_
  have he : ((View.whole main_v18_6).slice (win0_12.rect t)).emb y = ix3 (blkSeq t) (y 1) (blkPos t (y 2)) := by
    blk_ext [idx12, blkSeq, blkPos]
  have hy : y = ix3 (y 0) (y 1) (y 2) := eq_ix3 y
  blk_simp
  rw [after0_12, he, hy]
  exact row_gt m c t _ _ _

/-- The kernel leaves in its seven results what the reference computes. -/
theorem claim : Cert.algebraic_NsaProjIdeal_RefNsaProjIdeal := by
  intro m g m' g' _ hA
  refine ⟨fun c => (dats m 0 c).arrAt 6 cfg0.N, fun c => (dats m 0 c).arrAt 7 cfg0.N, fun c => (dats m 0 c).arrAt 8 cfg0.N,
    fun c => (dats m 0 c).arrAt 9 cfg0.N, fun c => (dats m 0 c).arrAt 10 cfg0.N, fun c => (dats m 0 c).arrAt 11 cfg0.N,
    fun c => (dats m 0 c).arrAt 12 cfg0.N, ?_, ?_⟩
  · exact (θ_run _ _ _).mono (fun r h c => h c) (Cert.NsaProjIdeal.Value.run_blocks m g)
  · refine (θ_run _ _ _).mono (fun r h c => ?_) (Cert.RefNsaProjIdeal.Value.run (F := Ideal) m' g')
    obtain ⟨a0, a1, a2⟩ := hA c
    obtain ⟨e0, e1, e2, e3, e4, e5, e6, kept⟩ := h c
    refine ⟨e0.trans ?_, e1.trans ?_, e2.trans ?_, e3.trans ?_, e4.trans ?_, e5.trans ?_, e6.trans ?_, kept⟩
    · refine (Cert.RefNsaProjIdeal.Read.val_main_v41_eq (F := Ideal) _ _ _).trans ?_
      rw [a0, a1, a2]
      exact (final_q m c).symm
    · refine (Cert.RefNsaProjIdeal.Read.val_main_v45_eq (F := Ideal) _ _ _).trans ?_
      rw [a0, a1, a2]
      exact (final_ks m c).symm
    · refine (Cert.RefNsaProjIdeal.Read.val_main_v49_eq (F := Ideal) _ _ _).trans ?_
      rw [a0, a1, a2]
      exact (final_kw m c).symm
    · refine (Cert.RefNsaProjIdeal.Read.val_main_v55_eq (F := Ideal) _ _ _).trans ?_
      rw [a0, a1, a2]
      exact (final_vs m c).symm
    · refine (Cert.RefNsaProjIdeal.Read.val_main_v61_eq (F := Ideal) _ _ _).trans ?_
      rw [a0, a1, a2]
      exact (final_vw m c).symm
    · refine (Cert.RefNsaProjIdeal.Read.val_main_v63_eq (F := Ideal) _ _ _).trans ?_
      rw [a0, a1, a2]
      exact (final_c m c).symm
    · refine (Cert.RefNsaProjIdeal.Read.val_main_v28_eq (F := Ideal) _ _ _).trans ?_
      rw [a0, a1, a2]
      exact (final_gt m c).symm

end Cert.Trunk.NsaProj

end
-- ==== Proof.NsaCompressRef.lean ====
/- The sparse attention's compression of keys and values: its reference, a row at a time. -/
module

public import proofs.«01_k».proof.Defs
public import proofs.«01_k».proof.Proof.Gen.RefNsaCompressIdeal.Run
public import proofs.«01_k».proof.Proof.Gen.RefNsaCompressIdeal.Read
public import proofs.«01_k».proof.Proof.Rows
public import Idealize.ShloMosaic.Lib.Pointwise
public import Idealize.ShloMosaic.Lib.Claim
public import Idealize.ShloMosaic.Lib.Pipeline.ValueKit

@[expose] public section

noncomputable section

namespace Cert.Trunk.NsaCompress

open Idealize.ShloMosaic Idealize.ShloMosaic.TcCoe Idealize.SL.Sem

/-- The tanh form of the gelu, with its factors grouped as the reference has them. -/
theorem gelu_eq (a : EReal) :
    a * (Ideal.ofBits .f32 0x3F000000#32 * (1 + Ideal.tanh (Ideal.ofBits .f32 0x3F4C422A#32
        * (a + Ideal.ofBits .f32 0x3D372713#32 * (a * a * a))))) = gelu a := by
  rw [gelu, ← mul_assoc, mul_comm a (Ideal.ofBits .f32 0x3F000000#32)]

/-- A sum over 2048 indices in two halves. -/
theorem sum_halves (f : Fin 2048 → EReal) :
    ∑ k, f k = (∑ k : Fin 1024, f ⟨k.val, by omega⟩) + ∑ k : Fin 1024, f ⟨1024 + k.val, by omega⟩ :=
  Fin.sum_univ_add (M := EReal) (a := 1024) (b := 1024) f

theorem half_div (k : Fin 1024) : (1024 + k.val) / 64 = 16 + k.val / 64 := by omega

theorem half_mod (k : Fin 1024) : (1024 + k.val) % 64 = k.val % 64 := by omega

/-- The row after row `n`, the first after the last. -/
def next (n : Fin 512) : Fin 512 := ⟨(n.val + 1) % 512, by omega⟩

theorem next_inner (n : Fin 512) (h : n.val < 511) : next n = ⟨1 + n.val, by omega⟩ := by
  apply Fin.ext; change (n.val + 1) % 512 = 1 + n.val; omega

theorem next_last (n : Fin 512) (h : ¬ n.val < 511) : next n = ⟨n.val - 511, by omega⟩ := by
  apply Fin.ext; change (n.val + 1) % 512 = n.val - 511; omega

/-- A hidden unit of a compressed block: the gelu of the block's two halves, each with its positions added, times their
weights. -/
def hidRow (x y p q : Fin 1024 → EReal) (w v : Fin 1024 → Fin 256 → EReal) (j : Fin 256) : EReal :=
  gelu (rowMul (fun k => x k + p k) w j + rowMul (fun k => y k + q k) v j)

section
open Cert.RefNsaCompressIdeal.Read

variable (x : FVec Ideal Cert.RefNsaCompressIdeal.S2x4x2x512x1024 .f32) (pe : FVec Ideal Cert.RefNsaCompressIdeal.S2x32x64 .f32)
  (w : FVec Ideal Cert.RefNsaCompressIdeal.S2x2048x256 .f32) (z : FVec Ideal Cert.RefNsaCompressIdeal.S2x256x64 .f32)

/-- The first half of a block of the reference. -/
theorem ref_lo (c b : Fin 2) (g : Fin 4) (n : Fin 512) (k : Fin 1024) :
    val_main_v9 (F := Ideal) x pe (ix5 c b g n ⟨k.val, by omega⟩)
      = x (ix5 c g b n k) + pe (ix3 c ⟨k.val / 64, by omega⟩ ⟨k.val % 64, by omega⟩) := by
  pointwise [val_main_v9, val_main_v8, val_main_v7, val_main_v6, val_main_v5, val_main_v1, val_main_v0]
  rw [dif_pos (by omega)]

/-- The second half. -/
theorem ref_hi (c b : Fin 2) (g : Fin 4) (n : Fin 512) (k : Fin 1024) :
    val_main_v9 (F := Ideal) x pe (ix5 c b g n ⟨1024 + k.val, by omega⟩)
      = x (ix5 c g b (next n) k) + pe (ix3 c ⟨16 + k.val / 64, by omega⟩ ⟨k.val % 64, by omega⟩) := by
  pointwise [val_main_v9, val_main_v8, val_main_v7, val_main_v6, val_main_v5, val_main_v4, val_main_v3,
    val_main_v2, val_main_v1, val_main_v0]
  rw [dif_neg (by omega)]
  refine congrArg₂ (· + ·) ?_ (congrArg₂ (fun a b => pe (ix3 c a b)) (Fin.ext (half_div k)) (Fin.ext (half_mod k)))
  split
  · next h => exact congrArg (fun r => x (ix5 c g b r k)) (next_inner n h).symm
  · next h => exact congrArg (fun r => x (ix5 c g b r k)) (next_last n h).symm

/-- The product before the gelu. -/
theorem ref_sum (c b : Fin 2) (g : Fin 4) (n : Fin 512) (j : Fin 256) :
    val_main_v10 (F := Ideal) x pe w (ix5 c b g n j)
      = ∑ k : Fin 2048, val_main_v9 (F := Ideal) x pe (ix5 c b g n k) * w (ix3 c k j) := by
  pointwise [val_main_v10]

/-- The hidden units of the reference. -/
def refHid (c b : Fin 2) (g : Fin 4) (n : Fin 512) : Fin 256 → EReal :=
  hidRow (fun k => x (ix5 c g b n k)) (fun k => x (ix5 c g b (next n) k))
    (fun k => pe (ix3 c ⟨k.val / 64, by omega⟩ ⟨k.val % 64, by omega⟩))
    (fun k => pe (ix3 c ⟨16 + k.val / 64, by omega⟩ ⟨k.val % 64, by omega⟩))
    (fun k h => w (ix3 c ⟨k.val, by omega⟩ h)) (fun k h => w (ix3 c ⟨1024 + k.val, by omega⟩ h))

theorem ref_halves (c b : Fin 2) (g : Fin 4) (n : Fin 512) (j : Fin 256) :
    gelu (val_main_v10 (F := Ideal) x pe w (ix5 c b g n j)) = refHid x pe w c b g n j := by
  rw [ref_sum, sum_halves]
  unfold refHid hidRow rowMul
  exact congrArg gelu (congrArg₂ (· + ·)
    (Finset.sum_congr rfl fun k _ => congrArg (· * w (ix3 c ⟨k.val, by omega⟩ j)) (ref_lo x pe c b g n k))
    (Finset.sum_congr rfl fun k _ => congrArg (· * w (ix3 c ⟨1024 + k.val, by omega⟩ j)) (ref_hi x pe c b g n k)))

/-- The gelu of the reference. -/
theorem ref_gelu (c b : Fin 2) (g : Fin 4) (n : Fin 512) (j : Fin 256) :
    val_main_v23 (F := Ideal) x pe w (ix5 c b g n j)
      = val_main_v10 (F := Ideal) x pe w (ix5 c b g n j) * (Ideal.ofBits .f32 0x3F000000#32
        * (1 + Ideal.tanh (Ideal.ofBits .f32 0x3F4C422A#32 * (val_main_v10 (F := Ideal) x pe w (ix5 c b g n j)
          + Ideal.ofBits .f32 0x3D372713#32 * (val_main_v10 (F := Ideal) x pe w (ix5 c b g n j)
            * val_main_v10 (F := Ideal) x pe w (ix5 c b g n j) * val_main_v10 (F := Ideal) x pe w (ix5 c b g n j)))))) := by
  rw [val_main_v23_apply, val_main_v22_apply, val_main_v21_apply, val_main_cst_2_apply, val_main_v20_apply, val_main_v19_apply,
    val_main_cst_1_apply, val_main_v18_apply, val_main_v17_apply, val_main_v16_apply, val_main_cst_0_apply, val_main_v15_apply,
    val_main_v14_apply, val_main_v13_apply, val_main_cst_apply, val_main_v12_apply, val_main_v11_apply]
  generalize val_main_v10 (F := Ideal) x pe w (ix5 c b g n j) = u
  rw [← Ideal.ofBits_one_f32]
  rfl

theorem ref_hid (c b : Fin 2) (g : Fin 4) (n : Fin 512) (j : Fin 256) :
    val_main_v23 (F := Ideal) x pe w (ix5 c b g n j) = refHid x pe w c b g n j := by
  rw [← ref_halves]
  exact (ref_gelu x pe w c b g n j).trans (gelu_eq _)

theorem ref_k (c b : Fin 2) (g : Fin 4) (n : Fin 512) (j : Fin 64) :
    val_main_v25 (F := Ideal) x pe w z (ix5 c b g n j) = rowMul (refHid x pe w c b g n) (fun h d => z (ix3 c h d)) j := by
  pointwise [val_main_v25, val_main_v24, ref_hid, rowMul]

theorem ref_v (c b : Fin 2) (g : Fin 4) (n : Fin 512) (j : Fin 64) :
    val_main_v27 (F := Ideal) x pe w z (ix5 c b g j n) = rowMul (refHid x pe w c b g n) (fun h d => z (ix3 c h d)) j := by
  pointwise [val_main_v27, val_main_v26, val_main_v24, ref_hid, rowMul]

end

end Cert.Trunk.NsaCompress

end
-- ==== Proof.NsaCompress.lean ====
/- The sparse attention's compression of keys and values: what the kernel leaves in its two results is what the reference
computes. -/
module

public import proofs.«01_k».proof.Defs
public import proofs.«01_k».proof.Proof.Gen.NsaCompressIdeal.Value
public import proofs.«01_k».proof.Proof.Gen.RefNsaCompressIdeal.Run
public import proofs.«01_k».proof.Proof.Gen.RefNsaCompressIdeal.Read
public import proofs.«01_k».proof.Proof.Rows
public import proofs.«01_k».proof.Proof.NsaCompressRef
public import Idealize.ShloMosaic.Lib.Pointwise
public import Idealize.ShloMosaic.Lib.Claim
public import Idealize.ShloMosaic.Lib.Pipeline.ValueKit

@[expose] public section

noncomputable section

namespace Cert.Trunk.NsaCompress

open Idealize.ShloMosaic Idealize.ShloMosaic.TcCoe Idealize.SL.Sem
open Cert.NsaCompressIdeal Cert.NsaCompressIdeal.Gen

/-- The product before the gelu. -/
theorem block_sum (x : FVec Ideal S1x1x1x512x1024 .f32) (p q : FVec Ideal S1x1x1024 .f32) (w v : FVec Ideal S1x1024x256 .bf16)
    (n : Fin 512) (j : Fin 256) :
    k0_pay4 (F := Ideal) x p w q v (ix2 n j)
      = rowMul (fun k => x (ix5 0 0 0 n k) + p (ix3 0 0 k)) (fun k h => w (ix3 0 k h)) j
        + rowMul (fun k => x (ix5 0 0 0 (next n) k) + q (ix3 0 0 k)) (fun k h => v (ix3 0 k h)) j := by
  pointwise [k0_pay4, rowMul]
  congr 1
  split
  · next h => rw [next_inner n h]
  · next h => rw [next_last n h]

/-- The hidden units of a block. -/
theorem block_hid (x : FVec Ideal S1x1x1x512x1024 .f32) (p q : FVec Ideal S1x1x1024 .f32) (w v : FVec Ideal S1x1024x256 .bf16)
    (n : Fin 512) (j : Fin 256) :
    k0_pay1 (F := Ideal) (k0_pay5 x p w q v) (k0_pay6 x p w q v) (ix2 n j)
      = hidRow (fun k => x (ix5 0 0 0 n k)) (fun k => x (ix5 0 0 0 (next n) k)) (fun k => p (ix3 0 0 k)) (fun k => q (ix3 0 0 k))
          (fun k h => w (ix3 0 k h)) (fun k h => v (ix3 0 k h)) j := by
  rw [hidRow, ← block_sum]
  pointwise [k0_pay1, k0_pay5, k0_pay6, gelu]

theorem block_k (x : FVec Ideal S1x1x1x512x1024 .f32) (p q : FVec Ideal S1x1x1024 .f32) (w v : FVec Ideal S1x1024x256 .bf16)
    (z : FVec Ideal S1x256x64 .bf16) (a b e : Fin 1) (n : Fin 512) (j : Fin 64) :
    k0_pay2 (F := Ideal) (k0_pay5 x p w q v) (k0_pay6 x p w q v) z (ix5 a b e n j)
      = rowMul (hidRow (fun k => x (ix5 0 0 0 n k)) (fun k => x (ix5 0 0 0 (next n) k)) (fun k => p (ix3 0 0 k))
          (fun k => q (ix3 0 0 k)) (fun k h => w (ix3 0 k h)) (fun k h => v (ix3 0 k h))) (fun h d => z (ix3 0 h d)) j := by
  pointwise [k0_pay2, block_hid, rowMul]

theorem block_v (x : FVec Ideal S1x1x1x512x1024 .f32) (p q : FVec Ideal S1x1x1024 .f32) (w v : FVec Ideal S1x1024x256 .bf16)
    (z : FVec Ideal S1x64x256 .bf16) (a b e : Fin 1) (n : Fin 512) (j : Fin 64) :
    k0_pay3 (F := Ideal) (k0_pay5 x p w q v) (k0_pay6 x p w q v) z (ix5 a b e j n)
      = rowMul (hidRow (fun k => x (ix5 0 0 0 n k)) (fun k => x (ix5 0 0 0 (next n) k)) (fun k => p (ix3 0 0 k))
          (fun k => q (ix3 0 0 k)) (fun k h => w (ix3 0 k h)) (fun k h => v (ix3 0 k h))) (fun h d => z (ix3 0 d h)) j := by
  pointwise [k0_pay3, block_hid, rowMul]
  exact Finset.sum_congr rfl fun k _ => mul_comm _ _

/-! ### From the blocks to the arrays -/

theorem zero3 : (![0, 0, 0] : Fin 3 → ℕ) = fun _ => 0 := by decide
theorem zero5 : (![0, 0, 0, 0, 0] : Fin 5 → ℕ) = fun _ => 0 := by decide

theorem ld_x (x : Vec Ideal S1x1x1x512x1024 .f32) :
    View.ld (Val := Elt Ideal) (e' := .f32) (S := S1x1x1x512x1024) x r0_0 = x :=
  View.ld_unit_zero (S := S1x1x1x512x1024) (e := .f32) (Val := Elt Ideal) zero5
    inb_S1x1x1x512x1024_S1x1x1x512x1024_0_0_0_0_0 x
theorem ld_p (x : Vec Ideal S1x1x1024 .f32) : View.ld (Val := Elt Ideal) (e' := .f32) (S := S1x1x1024) x r0_1 = x :=
  View.ld_unit_zero (S := S1x1x1024) (e := .f32) (Val := Elt Ideal) zero3 inb_S1x1x1024_S1x1x1024_0_0_0 x
theorem ld_w (x : Vec Ideal S1x1024x256 .bf16) : View.ld (Val := Elt Ideal) (e' := .bf16) (S := S1x1024x256) x r0_2 = x :=
  View.ld_unit_zero (S := S1x1024x256) (e := .bf16) (Val := Elt Ideal) zero3 inb_S1x1024x256_S1x1024x256_0_0_0 x
theorem ld_z (x : Vec Ideal S1x256x64 .bf16) : View.ld (Val := Elt Ideal) (e' := .bf16) (S := S1x256x64) x r0_3 = x :=
  View.ld_unit_zero (S := S1x256x64) (e := .bf16) (Val := Elt Ideal) zero3 inb_S1x256x64_S1x256x64_0_0_0 x
theorem ld_zt (x : Vec Ideal S1x64x256 .bf16) : View.ld (Val := Elt Ideal) (e' := .bf16) (S := S1x64x256) x r0_5 = x :=
  View.ld_unit_zero (S := S1x64x256) (e := .bf16) (Val := Elt Ideal) zero3 inb_S1x64x256_S1x64x256_0_0_0 x

section
variable (x : FVec Ideal S1x1x1x512x1024 .f32) (p q : FVec Ideal S1x1x1024 .f32) (w v : FVec Ideal S1x1024x256 .bf16)
  (z : FVec Ideal S1x256x64 .bf16) (y : FVec Ideal S1x64x256 .bf16)

/-- The hidden units of a position of the block. -/
def blkHid (n : Fin 512) : Fin 256 → EReal :=
  hidRow (fun k => x (ix5 0 0 0 n k)) (fun k => x (ix5 0 0 0 (next n) k)) (fun k => p (ix3 0 0 k))
    (fun k => q (ix3 0 0 k)) (fun k h => w (ix3 0 k h)) (fun k h => v (ix3 0 k h))

theorem out_k (a b e : Fin 1) (n : Fin 512) (j : Fin 64) :
    out0_7 (F := Ideal) x p q w v z y (ix5 a b e n j)
      = rowMul (blkHid x p q w v n) (fun h d => z (ix3 0 h d)) j := by
  unfold_out out0_7
  rw [ld_x, ld_p, ld_p, ld_w, ld_w, ld_z]
  exact (congrFun (View.canon_cons_unit_zero zero5 _ _ _) _).trans (block_k x p q w v z a b e n j)

theorem out_v (a b e : Fin 1) (n : Fin 512) (j : Fin 64) :
    out0_8 (F := Ideal) x p q w v z y (ix5 a b e j n)
      = rowMul (blkHid x p q w v n) (fun h d => y (ix3 0 d h)) j := by
  unfold_out out0_8
  rw [ld_x, ld_p, ld_p, ld_w, ld_w, ld_zt]
  exact (congrFun (View.canon_cons_unit_zero zero5 _ _ _) _).trans (block_v x p q w v y a b e n j)

end

theorem idx0 : ∀ t : Fin cfg0.N, win0_0.index t
    = ![(grid0.coords t 0).val, (grid0.coords t 2).val, (grid0.coords t 1).val, 0, 0] := (by decide +kernel : ∀ t : Fin grid0.N, _)
theorem idx1 : ∀ t : Fin cfg0.N, win0_1.index t
    = ![(grid0.coords t 0).val, 0, 0] := (by decide +kernel : ∀ t : Fin grid0.N, _)
theorem idx2 : ∀ t : Fin cfg0.N, win0_2.index t
    = ![(grid0.coords t 0).val, 0, 0] := (by decide +kernel : ∀ t : Fin grid0.N, _)
theorem idx3 : ∀ t : Fin cfg0.N, win0_3.index t
    = ![(grid0.coords t 0).val, 0, 0] := (by decide +kernel : ∀ t : Fin grid0.N, _)
theorem idx4 : ∀ t : Fin cfg0.N, win0_4.index t
    = ![(grid0.coords t 0).val, 0, 0] := (by decide +kernel : ∀ t : Fin grid0.N, _)
theorem idx5 : ∀ t : Fin cfg0.N, win0_5.index t
    = ![(grid0.coords t 0).val, 0, 0] := (by decide +kernel : ∀ t : Fin grid0.N, _)
theorem idx6 : ∀ t : Fin cfg0.N, win0_6.index t
    = ![(grid0.coords t 0).val, 0, 0] := (by decide +kernel : ∀ t : Fin grid0.N, _)
theorem idx7 : ∀ t : Fin cfg0.N, win0_7.index t
    = ![(grid0.coords t 0).val, (grid0.coords t 1).val, (grid0.coords t 2).val, 0, 0] := (by decide +kernel : ∀ t : Fin grid0.N, _)
theorem idx8 : ∀ t : Fin cfg0.N, win0_8.index t
    = ![(grid0.coords t 0).val, (grid0.coords t 1).val, (grid0.coords t 2).val, 0, 0] := (by decide +kernel : ∀ t : Fin grid0.N, _)

variable (m : (ℓ : Loc nD τ sig) → Buf (Elt Ideal) ℓ)

/-- The blocks to be compressed, the positions' rows and the two layers' weights. -/
abbrev argX (c : Dev nD) : FVec Ideal S2x4x2x512x1024 .f32 := m ((c : Thread nD τ).loc main_arg0)
abbrev argP (c : Dev nD) : FVec Ideal S2x32x64 .f32 := m ((c : Thread nD τ).loc main_arg1)
abbrev argW (c : Dev nD) : FVec Ideal S2x2048x256 .f32 := m ((c : Thread nD τ).loc main_arg2)
abbrev argZ (c : Dev nD) : FVec Ideal S2x256x64 .f32 := m ((c : Thread nD τ).loc main_arg3)

/-- The keys or the values, the sequence and the group of a grid point. -/
def kv (t : Fin cfg0.N) : Fin 2 := ⟨(grid0.coords t 0).val, (grid0.coords t 0).isLt⟩
def sq (t : Fin cfg0.N) : Fin 2 := ⟨(grid0.coords t 1).val, (grid0.coords t 1).isLt⟩
def gr (t : Fin cfg0.N) : Fin 4 := ⟨(grid0.coords t 2).val, (grid0.coords t 2).isLt⟩

theorem at_x (c : Dev nD) (t : Fin cfg0.N) (n : Fin 512) (k : Fin 1024) :
    (iblk m c 0 t : FVec Ideal S1x1x1x512x1024 .f32) (ix5 0 0 0 n k) = argX m c (ix5 (kv t) (gr t) (sq t) n k) := by
  blk_point [iblk, V, idx0, kv, gr, sq]

theorem V_p (c : Dev nD) (s : Fin 2) (k : Fin 1024) : (V m c main_v1 : FVec Ideal S2x1x1024 .f32) (ix3 s 0 k)
    = argP m c (ix3 s ⟨k.val / 64, by omega⟩ ⟨k.val % 64, by omega⟩) := by
  entry_read
  pointwise

theorem V_q (c : Dev nD) (s : Fin 2) (k : Fin 1024) : (V m c main_v3 : FVec Ideal S2x1x1024 .f32) (ix3 s 0 k)
    = argP m c (ix3 s ⟨16 + k.val / 64, by omega⟩ ⟨k.val % 64, by omega⟩) := by
  entry_read
  pointwise

theorem at_p (c : Dev nD) (t : Fin cfg0.N) (k : Fin 1024) : (iblk m c 1 t : FVec Ideal S1x1x1024 .f32) (ix3 0 0 k)
    = argP m c (ix3 (kv t) ⟨k.val / 64, by omega⟩ ⟨k.val % 64, by omega⟩) := by
  have he : (win0_1.blk t).view.emb (ix3 0 0 k) = ix3 (kv t) 0 k := by blk_ext [idx1, kv]
  exact (congrArg (V m c main_v1) he).trans (V_p m c _ k)

theorem at_q (c : Dev nD) (t : Fin cfg0.N) (k : Fin 1024) : (iblk m c 2 t : FVec Ideal S1x1x1024 .f32) (ix3 0 0 k)
    = argP m c (ix3 (kv t) ⟨16 + k.val / 64, by omega⟩ ⟨k.val % 64, by omega⟩) := by
  have he : (win0_2.blk t).view.emb (ix3 0 0 k) = ix3 (kv t) 0 k := by blk_ext [idx2, kv]
  exact (congrArg (V m c main_v3) he).trans (V_q m c _ k)

theorem at_w (c : Dev nD) (t : Fin cfg0.N) (k : Fin 1024) (h : Fin 256) :
    (iblk m c 3 t : FVec Ideal S1x1024x256 .bf16) (ix3 0 k h) = argW m c (ix3 (kv t) ⟨k.val, by omega⟩ h) := by
  blk_point [iblk, V, idx3, kv]

theorem at_v (c : Dev nD) (t : Fin cfg0.N) (k : Fin 1024) (h : Fin 256) :
    (iblk m c 4 t : FVec Ideal S1x1024x256 .bf16) (ix3 0 k h) = argW m c (ix3 (kv t) ⟨1024 + k.val, by omega⟩ h) := by
  blk_point [iblk, V, idx4, kv]

theorem at_z (c : Dev nD) (t : Fin cfg0.N) (h : Fin 256) (d : Fin 64) :
    (iblk m c 5 t : FVec Ideal S1x256x64 .bf16) (ix3 0 h d) = argZ m c (ix3 (kv t) h d) := by
  blk_point [iblk, V, idx5, kv]

theorem at_zt (c : Dev nD) (t : Fin cfg0.N) (h : Fin 256) (d : Fin 64) :
    (iblk m c 6 t : FVec Ideal S1x64x256 .bf16) (ix3 0 d h) = argZ m c (ix3 (kv t) h d) := by
  blk_point [iblk, V, idx6, kv]

/-- The hidden units of a grid point are the reference's. -/
theorem hid_blk (c : Dev nD) (t : Fin cfg0.N) (n : Fin 512) :
    blkHid (iblk m c 0 t) (iblk m c 1 t) (iblk m c 2 t) (iblk m c 3 t) (iblk m c 4 t) n
      = refHid (argX m c) (argP m c) (argW m c) (kv t) (sq t) (gr t) n := by
  unfold blkHid refHid
  have h0 := fun k => at_x m c t n k
  have h1 := fun k => at_x m c t (next n) k
  rw [show (fun k => (iblk m c 0 t : FVec Ideal S1x1x1x512x1024 .f32) (ix5 0 0 0 n k)) = _ from funext h0,
    show (fun k => (iblk m c 0 t : FVec Ideal S1x1x1x512x1024 .f32) (ix5 0 0 0 (next n) k)) = _ from funext h1,
    show (fun k => (iblk m c 1 t : FVec Ideal S1x1x1024 .f32) (ix3 0 0 k)) = _ from funext fun k => at_p m c t k,
    show (fun k => (iblk m c 2 t : FVec Ideal S1x1x1024 .f32) (ix3 0 0 k)) = _ from funext fun k => at_q m c t k,
    show (fun k h => (iblk m c 3 t : FVec Ideal S1x1024x256 .bf16) (ix3 0 k h)) = _ from
      funext fun k => funext fun h => at_w m c t k h,
    show (fun k h => (iblk m c 4 t : FVec Ideal S1x1024x256 .bf16) (ix3 0 k h)) = _ from
      funext fun k => funext fun h => at_v m c t k h]

/-- The compressed keys of a grid point. -/
theorem row_k (c : Dev nD) (t : Fin cfg0.N) (a b e : Fin 1) (n : Fin 512) (j : Fin 64) :
    out0_7 (F := Ideal) (iblk m c 0 t) (iblk m c 1 t) (iblk m c 2 t) (iblk m c 3 t) (iblk m c 4 t) (iblk m c 5 t)
        (iblk m c 6 t) (ix5 a b e n j)
      = Cert.RefNsaCompressIdeal.Read.val_main_v25 (F := Ideal) (argX m c) (argP m c) (argW m c) (argZ m c)
          (ix5 (kv t) (sq t) (gr t) n j) := by
  refine (out_k _ _ _ _ _ _ _ _ _ _ _ _).trans (Eq.trans ?_ (ref_k _ _ _ _ _ _ _ _ _).symm)
  rw [hid_blk]
  exact Finset.sum_congr rfl fun h _ => congrArg (_ * ·) (at_z m c t h j)

/-- The compressed values, transposed. -/
theorem row_v (c : Dev nD) (t : Fin cfg0.N) (a b e : Fin 1) (j : Fin 64) (n : Fin 512) :
    out0_8 (F := Ideal) (iblk m c 0 t) (iblk m c 1 t) (iblk m c 2 t) (iblk m c 3 t) (iblk m c 4 t) (iblk m c 5 t)
        (iblk m c 6 t) (ix5 a b e j n)
      = Cert.RefNsaCompressIdeal.Read.val_main_v27 (F := Ideal) (argX m c) (argP m c) (argW m c) (argZ m c)
          (ix5 (kv t) (sq t) (gr t) j n) := by
  refine (out_v _ _ _ _ _ _ _ _ _ _ _ _).trans (Eq.trans ?_ (ref_v _ _ _ _ _ _ _ _ _).symm)
  rw [hid_blk]
  exact Finset.sum_congr rfl fun h _ => congrArg (_ * ·) (at_zt m c t h j)

theorem final_k (c : Dev nD) : (dats m 0 c).arrAt 7 cfg0.N
    = Cert.RefNsaCompressIdeal.Read.val_main_v25 (F := Ideal) (argX m c) (argP m c) (argW m c) (argZ m c) := by
  refine (dats m 0 c).arrAt_eq_of_covers 7 _ (by decide +kernel) fun t hf y => ?_
  have he : ((View.whole main_v11_0).slice (win0_7.rect t)).emb y = ix5 (kv t) (sq t) (gr t) (y 3) (y 4) := by
    blk_ext [idx7, kv, sq, gr]
  have hy : y = ix5 (y 0) (y 1) (y 2) (y 3) (y 4) := eq_ix5 y
  blk_simp
  rw [after0_7, he, hy]
  exact row_k m c t _ _ _ _ _

theorem final_v (c : Dev nD) : (dats m 0 c).arrAt 8 cfg0.N
    = Cert.RefNsaCompressIdeal.Read.val_main_v27 (F := Ideal) (argX m c) (argP m c) (argW m c) (argZ m c) := by
  refine (dats m 0 c).arrAt_eq_of_covers 8 _ (by decide +kernel) fun t hf y => ?_
  have he : ((View.whole main_v11_1).slice (win0_8.rect t)).emb y = ix5 (kv t) (sq t) (gr t) (y 3) (y 4) := by
    blk_ext [idx8, kv, sq, gr]
  have hy : y = ix5 (y 0) (y 1) (y 2) (y 3) (y 4) := eq_ix5 y
  blk_simp
  rw [after0_8, he, hy]
  exact row_v m c t _ _ _ _ _

/-- The kernel leaves in its two results what the reference computes. -/
theorem claim : Cert.algebraic_NsaCompressIdeal_RefNsaCompressIdeal := by
  intro m g m' g' _ hA
  refine ⟨fun c => (dats m 0 c).arrAt 7 cfg0.N, fun c => (dats m 0 c).arrAt 8 cfg0.N, ?_, ?_⟩
  · exact (θ_run _ _ _).mono (fun r h c => h c) (Cert.NsaCompressIdeal.Value.run_blocks m g)
  · refine (θ_run _ _ _).mono (fun r h c => ?_) (Cert.RefNsaCompressIdeal.Value.run (F := Ideal) m' g')
    obtain ⟨a0, a1, a2, a3⟩ := hA c
    obtain ⟨e0, e1, kept⟩ := h c
    refine ⟨e0.trans ?_, e1.trans ?_, kept⟩
    · refine (Cert.RefNsaCompressIdeal.Read.val_main_v25_eq (F := Ideal) _ _).trans ?_
      rw [a0, a1, a2, a3]
      exact (final_k m c).symm
    · refine (Cert.RefNsaCompressIdeal.Read.val_main_v27_eq (F := Ideal) _ _).trans ?_
      rw [a0, a1, a2, a3]
      exact (final_v m c).symm

end Cert.Trunk.NsaCompress

end
-- ==== Proof.lean ====
/- The certificate's claims, from the modules under `Proof/`: the frames are the generated ones (a reference runs on the
   host alone and has no semaphores), and each value claim is proved in its call's own module. -/
module

public import proofs.«01_k».proof.Defs
public import proofs.«01_k».proof.Proof.Gen.Sgu.Frame
public import proofs.«01_k».proof.Proof.Gen.SguIdeal.Frame
public import proofs.«01_k».proof.Proof.Gen.RefSguIdeal.Run
public import proofs.«01_k».proof.Proof.Sgu
public import proofs.«01_k».proof.Proof.Gen.Ffn.Frame
public import proofs.«01_k».proof.Proof.Gen.FfnIdeal.Frame
public import proofs.«01_k».proof.Proof.Gen.RefFfnIdeal.Run
public import proofs.«01_k».proof.Proof.Ffn
public import proofs.«01_k».proof.Proof.Gen.FfnRows.Frame
public import proofs.«01_k».proof.Proof.Gen.FfnRowsIdeal.Frame
public import proofs.«01_k».proof.Proof.Gen.RefFfnRowsIdeal.Run
public import proofs.«01_k».proof.Proof.FfnRows
public import proofs.«01_k».proof.Proof.Gen.FfnFinal.Frame
public import proofs.«01_k».proof.Proof.Gen.FfnFinalIdeal.Frame
public import proofs.«01_k».proof.Proof.Gen.RefFfnFinalIdeal.Run
public import proofs.«01_k».proof.Proof.FfnFinal
public import proofs.«01_k».proof.Proof.Gen.GmlpIn.Frame
public import proofs.«01_k».proof.Proof.Gen.GmlpInIdeal.Frame
public import proofs.«01_k».proof.Proof.Gen.RefGmlpInIdeal.Run
public import proofs.«01_k».proof.Proof.GmlpIn
public import proofs.«01_k».proof.Proof.Gen.GlaIn.Frame
public import proofs.«01_k».proof.Proof.Gen.GlaInIdeal.Frame
public import proofs.«01_k».proof.Proof.Gen.RefGlaInIdeal.Run
public import proofs.«01_k».proof.Proof.GlaIn
public import proofs.«01_k».proof.Proof.Gen.NsaProj.Frame
public import proofs.«01_k».proof.Proof.Gen.NsaProjIdeal.Frame
public import proofs.«01_k».proof.Proof.Gen.RefNsaProjIdeal.Run
public import proofs.«01_k».proof.Proof.NsaProj
public import proofs.«01_k».proof.Proof.Gen.NsaCompress.Frame
public import proofs.«01_k».proof.Proof.Gen.NsaCompressIdeal.Frame
public import proofs.«01_k».proof.Proof.Gen.RefNsaCompressIdeal.Run
public import proofs.«01_k».proof.Proof.NsaCompress
public import Idealize.ShloMosaic.Adequacy
public import Idealize.ShloMosaic.Init

@[expose] public section

noncomputable section

namespace Cert.Proof

open Idealize.ShloMosaic Idealize.SL.Sem

/-- The reference of `Sgu` leaves its arguments as they were. -/
theorem frame_RefSgu : Cert.quiescent_RefSguIdeal := fun m ρ _ =>
  (θ_run Cert.RefSguIdeal.defs _ _).mono (fun r h => ⟨fun c => (h c).2, sem_eq_zero_of_no_sems (by decide) r.2⟩)
    (Cert.RefSguIdeal.Value.run (F := Ideal) m ρ)

/-- The reference of `Ffn` leaves its arguments as they were. -/
theorem frame_RefFfn : Cert.quiescent_RefFfnIdeal := fun m ρ _ =>
  (θ_run Cert.RefFfnIdeal.defs _ _).mono (fun r h => ⟨fun c => (h c).2, sem_eq_zero_of_no_sems (by decide) r.2⟩)
    (Cert.RefFfnIdeal.Value.run (F := Ideal) m ρ)

/-- The reference of `FfnRows` leaves its arguments as they were. -/
theorem frame_RefFfnRows : Cert.quiescent_RefFfnRowsIdeal := fun m ρ _ =>
  (θ_run Cert.RefFfnRowsIdeal.defs _ _).mono (fun r h => ⟨fun c => (h c).2, sem_eq_zero_of_no_sems (by decide) r.2⟩)
    (Cert.RefFfnRowsIdeal.Value.run (F := Ideal) m ρ)

/-- The reference of `FfnFinal` leaves its arguments as they were. -/
theorem frame_RefFfnFinal : Cert.quiescent_RefFfnFinalIdeal := fun m ρ _ =>
  (θ_run Cert.RefFfnFinalIdeal.defs _ _).mono (fun r h => ⟨fun c => (h c).2, sem_eq_zero_of_no_sems (by decide) r.2⟩)
    (Cert.RefFfnFinalIdeal.Value.run (F := Ideal) m ρ)

/-- The reference of `GmlpIn` leaves its arguments as they were. -/
theorem frame_RefGmlpIn : Cert.quiescent_RefGmlpInIdeal := fun m ρ _ =>
  (θ_run Cert.RefGmlpInIdeal.defs _ _).mono (fun r h => ⟨fun c => (h c).2, sem_eq_zero_of_no_sems (by decide) r.2⟩)
    (Cert.RefGmlpInIdeal.Value.run (F := Ideal) m ρ)

/-- The reference of `GlaIn` leaves its arguments as they were. -/
theorem frame_RefGlaIn : Cert.quiescent_RefGlaInIdeal := fun m ρ _ =>
  (θ_run Cert.RefGlaInIdeal.defs _ _).mono (fun r h => ⟨fun c => (h c).2, sem_eq_zero_of_no_sems (by decide) r.2⟩)
    (Cert.RefGlaInIdeal.Value.run (F := Ideal) m ρ)

/-- The reference of `NsaProj` leaves its arguments as they were. -/
theorem frame_RefNsaProj : Cert.quiescent_RefNsaProjIdeal := fun m ρ _ =>
  (θ_run Cert.RefNsaProjIdeal.defs _ _).mono (fun r h => ⟨fun c => (h c).2.2.2.2.2.2.2, sem_eq_zero_of_no_sems (by decide) r.2⟩)
    (Cert.RefNsaProjIdeal.Value.run (F := Ideal) m ρ)

/-- The reference of `NsaCompress` leaves its arguments as they were. -/
theorem frame_RefNsaCompress : Cert.quiescent_RefNsaCompressIdeal := fun m ρ _ =>
  (θ_run Cert.RefNsaCompressIdeal.defs _ _).mono (fun r h => ⟨fun c => (h c).2.2, sem_eq_zero_of_no_sems (by decide) r.2⟩)
    (Cert.RefNsaCompressIdeal.Value.run (F := Ideal) m ρ)

theorem claim : Cert.Claim := ⟨Cert.Sgu.Gen.facts, Cert.SguIdeal.Gen.facts, Cert.RefSguIdeal.Gen.facts, Cert.Ffn.Gen.facts, Cert.FfnIdeal.Gen.facts, Cert.RefFfnIdeal.Gen.facts, Cert.FfnRows.Gen.facts, Cert.FfnRowsIdeal.Gen.facts, Cert.RefFfnRowsIdeal.Gen.facts, Cert.FfnFinal.Gen.facts, Cert.FfnFinalIdeal.Gen.facts, Cert.RefFfnFinalIdeal.Gen.facts, Cert.GmlpIn.Gen.facts, Cert.GmlpInIdeal.Gen.facts, Cert.RefGmlpInIdeal.Gen.facts, Cert.GlaIn.Gen.facts, Cert.GlaInIdeal.Gen.facts, Cert.RefGlaInIdeal.Gen.facts, Cert.NsaProj.Gen.facts, Cert.NsaProjIdeal.Gen.facts, Cert.RefNsaProjIdeal.Gen.facts, Cert.NsaCompress.Gen.facts, Cert.NsaCompressIdeal.Gen.facts, Cert.RefNsaCompressIdeal.Gen.facts,
  fun m ρ _ => Cert.Sgu.Gen.frame m ρ, fun m ρ _ => Cert.SguIdeal.Gen.frame m ρ, frame_RefSgu,
  fun m ρ _ => Cert.Ffn.Gen.frame m ρ, fun m ρ _ => Cert.FfnIdeal.Gen.frame m ρ, frame_RefFfn,
  fun m ρ _ => Cert.FfnRows.Gen.frame m ρ, fun m ρ _ => Cert.FfnRowsIdeal.Gen.frame m ρ, frame_RefFfnRows,
  fun m ρ _ => Cert.FfnFinal.Gen.frame m ρ, fun m ρ _ => Cert.FfnFinalIdeal.Gen.frame m ρ, frame_RefFfnFinal,
  fun m ρ _ => Cert.GmlpIn.Gen.frame m ρ, fun m ρ _ => Cert.GmlpInIdeal.Gen.frame m ρ, frame_RefGmlpIn,
  fun m ρ _ => Cert.GlaIn.Gen.frame m ρ, fun m ρ _ => Cert.GlaInIdeal.Gen.frame m ρ, frame_RefGlaIn,
  fun m ρ _ => Cert.NsaProj.Gen.frame m ρ, fun m ρ _ => Cert.NsaProjIdeal.Gen.frame m ρ, frame_RefNsaProj,
  fun m ρ _ => Cert.NsaCompress.Gen.frame m ρ, fun m ρ _ => Cert.NsaCompressIdeal.Gen.frame m ρ, frame_RefNsaCompress,
  trivial, Cert.Trunk.Sgu.claim,
  trivial, Cert.Trunk.Ffn.claim,
  trivial, Cert.Trunk.FfnRows.claim,
  trivial, Cert.Trunk.FfnFinal.claim,
  trivial, Cert.Trunk.GmlpIn.claim,
  trivial, Cert.Trunk.GlaIn.claim,
  trivial, Cert.Trunk.NsaProj.claim,
  trivial, Cert.Trunk.NsaCompress.claim⟩

end Cert.Proof

end
